-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v11)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v11) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v62) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)) →
    ∃ (v0 : (c : Dev Cert.InprojKernelIdeal.nD) → Buf (Elt Ideal) ((c.tc : Thread Cert.InprojKernelIdeal.nD Cert.InprojKernelIdeal.τ).loc Cert.InprojKernelIdeal.main_v8_0)) (v1 : (c : Dev Cert.InprojKernelIdeal.nD) → Buf (Elt Ideal) ((c.tc : Thread Cert.InprojKernelIdeal.nD Cert.InprojKernelIdeal.τ).loc Cert.InprojKernelIdeal.main_v8_1)) (v2 : (c : Dev Cert.InprojKernelIdeal.nD) → Buf (Elt Ideal) ((c.tc : Thread Cert.InprojKernelIdeal.nD Cert.InprojKernelIdeal.τ).loc Cert.InprojKernelIdeal.main_v8_2)) (v3 : (c : Dev Cert.InprojKernelIdeal.nD) → Buf (Elt Ideal) ((c.tc : Thread Cert.InprojKernelIdeal.nD Cert.InprojKernelIdeal.τ).loc Cert.InprojKernelIdeal.main_v8_3)) (v4 : (c : Dev Cert.InprojKernelIdeal.nD) → Buf (Elt Ideal) ((c.tc : Thread Cert.InprojKernelIdeal.nD Cert.InprojKernelIdeal.τ).loc Cert.InprojKernelIdeal.main_v8_4)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v8_0) = v0 c
          ∧ r.2.mem ((c.tc : Thread Cert.InprojKernelIdeal.nD Cert.InprojKernelIdeal.τ).loc Cert.InprojKernelIdeal.main_v8_1) = v1 c
          ∧ r.2.mem ((c.tc : Thread Cert.InprojKernelIdeal.nD Cert.InprojKernelIdeal.τ).loc Cert.InprojKernelIdeal.main_v8_2) = v2 c
          ∧ r.2.mem ((c.tc : Thread Cert.InprojKernelIdeal.nD Cert.InprojKernelIdeal.τ).loc Cert.InprojKernelIdeal.main_v8_3) = v3 c
          ∧ r.2.mem ((c.tc : Thread Cert.InprojKernelIdeal.nD Cert.InprojKernelIdeal.τ).loc Cert.InprojKernelIdeal.main_v8_4) = v4 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v11) = v0 c
          ∧ r.2.mem ((c.tc : Thread Cert.InprojReferenceIdeal.nD Cert.InprojReferenceIdeal.τ).loc Cert.InprojReferenceIdeal.main_v12) = v1 c
          ∧ r.2.mem ((c.tc : Thread Cert.InprojReferenceIdeal.nD Cert.InprojReferenceIdeal.τ).loc Cert.InprojReferenceIdeal.main_v13) = v2 c
          ∧ r.2.mem ((c.tc : Thread Cert.InprojReferenceIdeal.nD Cert.InprojReferenceIdeal.τ).loc Cert.InprojReferenceIdeal.main_v14) = v3 c
          ∧ r.2.mem ((c.tc : Thread Cert.InprojReferenceIdeal.nD Cert.InprojReferenceIdeal.τ).loc Cert.InprojReferenceIdeal.main_v15) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v13)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v13) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v51) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hInprojKernel : Cert.InprojKernel.Facts) (hInprojKernelIdeal : Cert.InprojKernelIdeal.Facts) (hInprojReferenceIdeal : Cert.InprojReferenceIdeal.Facts) (hMergeKernel : Cert.MergeKernel.Facts) (hMergeKernelIdeal : Cert.MergeKernelIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_InprojKernel_InprojKernelIdeal
    ∧ algebraic_InprojKernelIdeal_InprojReferenceIdeal (hInprojKernelIdeal := hInprojKernelIdeal) (hInprojReferenceIdeal := hInprojReferenceIdeal)
    ∧ preserves_MergeKernel_MergeKernelIdeal
    ∧ algebraic_MergeKernelIdeal_MergeReferenceIdeal (hMergeKernelIdeal := hMergeKernelIdeal) (hMergeReferenceIdeal := hMergeReferenceIdeal)
-- ==== Pre_finite.lean ====
abbrev S16384x1280 : Shape := ⟨2, ![16384, 1280]⟩
abbrev S32x16 : Shape := ⟨2, ![32, 16]⟩
abbrev S1x16 : Shape := ⟨2, ![1, 16]⟩
abbrev S16384x1152 : Shape := ⟨2, ![16384, 1152]⟩
abbrev S_ : Shape := ⟨0, ![]⟩

class Facts : Prop where
  slices_S16384x1280_S16384x1152_0_0 : S16384x1280.Slices ![0, 0] S16384x1152
  bitsLt_bf16_f32 : FTy.bits .bf16 < FTy.bits .f32
  bcast_S_S16384x1152 : S_.BroadcastsInDim S16384x1152 (![] : Fin 0 → Fin S16384x1152.rank)
  bcast_S_S32x16 : S_.BroadcastsInDim S32x16 (![] : Fin 0 → Fin S32x16.rank)
  bcast_S_S1x16 : S_.BroadcastsInDim S1x16 (![] : Fin 0 → Fin S1x16.rank)

variable [Facts]

def fn {F : FTy → Type} [FloatOps F] (main_arg0 : FVec F S16384x1280 .bf16) (main_arg1 : FVec F S32x16 .f32) (main_arg2 : FVec F S1x16 .f32) : IVec S16384x1152 1 × IVec S32x16 1 × IVec S1x16 1 :=
  let main_v0 : FVec F S16384x1152 .bf16 := (extractStridedSlice S16384x1152 ![0, 0] · slices_S16384x1280_S16384x1152_0_0) main_arg0
  let main_v1 : FVec F S16384x1152 .f32 := (extf .f32 · bitsLt_bf16_f32) main_v0
  let main_v2 : FVec F S16384x1152 .f32 := Host.absf main_v1
  let main_cst : FVec F S_ .f32 := constant S_ .f32 0x7F800000#32
  let main_v3 : FVec F S16384x1152 .f32 := broadcastInDim S16384x1152 ![] bcast_S_S16384x1152 main_cst
  let main_v4 : IVec S16384x1152 1 := cmpf .olt main_v2 main_v3
  let main_v5 : FVec F S32x16 .f32 := Host.absf main_arg1
  let main_cst_0 : FVec F S_ .f32 := constant S_ .f32 0x7F800000#32
  let main_v6 : FVec F S32x16 .f32 := broadcastInDim S32x16 ![] bcast_S_S32x16 main_cst_0
  let main_v7 : IVec S32x16 1 := cmpf .olt main_v5 main_v6
  let main_v8 : FVec F S1x16 .f32 := Host.absf main_arg2
  let main_cst_1 : FVec F S_ .f32 := constant S_ .f32 0x7F800000#32
  let main_v9 : FVec F S1x16 .f32 := broadcastInDim S1x16 ![] bcast_S_S1x16 main_cst_1
  let main_v10 : IVec S1x16 1 := cmpf .olt main_v8 main_v9
  (main_v4, main_v7, main_v10)
-- ==== Kernel.lean ====
abbrev S16384x1280 : Shape := ⟨2, ![16384, 1280]⟩
abbrev S32x16 : Shape := ⟨2, ![32, 16]⟩
abbrev S1x16 : Shape := ⟨2, ![1, 16]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x128x256 : Shape := ⟨3, ![1, 128, 256]⟩
abbrev S1x16x128x256 : Shape := ⟨4, ![1, 16, 128, 256]⟩
abbrev S2x16x128x256 : Shape := ⟨4, ![2, 16, 128, 256]⟩
abbrev S16 : Shape := ⟨1, ![16]⟩
abbrev S16384x1024 : Shape := ⟨2, ![16384, 1024]⟩
abbrev S128x1024 : Shape := ⟨2, ![128, 1024]⟩
abbrev S256x128 : Shape := ⟨2, ![256, 128]⟩
abbrev S128x128 : Shape := ⟨2, ![128, 128]⟩
abbrev S512x128 : Shape := ⟨2, ![512, 128]⟩
abbrev S1 : Shape := ⟨1, ![1]⟩
abbrev S1x1x128x256 : Shape := ⟨4, ![1, 1, 128, 256]⟩
abbrev S128x512 : Shape := ⟨2, ![128, 512]⟩

abbrev nBuf : Space → Nat
  | .hbm => 82
  | .vmem => 10
  | .smem => 1
  | _ => 0

abbrev bufTy : (tb : Table) → Fin (tcTables nBuf tb) → BufTy
  | .hbm, ⟨0, _⟩ => ⟨S16384x1280, .bf16⟩
  | .hbm, ⟨1, _⟩ => ⟨S32x16, .f32⟩
  | .hbm, ⟨2, _⟩ => ⟨S1x16, .f32⟩
  | .hbm, ⟨3, _⟩ => ⟨S128, .i32⟩
  | .hbm, ⟨4, _⟩ => ⟨S128x1, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S128x256x1, .i32⟩
  | .hbm, ⟨49, _⟩ => ⟨S128x256x16, .f32⟩
  | .hbm, ⟨50, _⟩ => ⟨S16x128x256, .f32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x256, .i1⟩
  | .hbm, ⟨58, _⟩ => ⟨S256, .i32⟩
  | .hbm, ⟨59, _⟩ => ⟨S1x256, .i32⟩
  | .hbm, ⟨60, _⟩ => ⟨S_, .i32⟩
  | .hbm, ⟨61, _⟩ => ⟨S1x256, .i32⟩
  | .hbm, ⟨62, _⟩ => ⟨S1x256, .i1⟩
  | .hbm, ⟨63, _⟩ => ⟨S128x256, .i1⟩
  | .hbm, ⟨64, _⟩ => ⟨S128x256, .i1⟩
  | .hbm, ⟨65, _⟩ => ⟨S1x128x256, .i1⟩
  | .hbm, ⟨66, _⟩ => ⟨S_, .f32⟩
  | .hbm, ⟨67, _⟩ => ⟨S_, .f32⟩
  | .hbm, ⟨68, _⟩ => ⟨S16x128x256, .i1⟩
  | .hbm, ⟨69, _⟩ => ⟨S16x128x256, .f32⟩
  | .hbm, ⟨70, _⟩ => ⟨S16x128x256, .f32⟩
  | .hbm, ⟨71, _⟩ => ⟨S1x128x256, .i1⟩
  | .hbm, ⟨72, _⟩ => ⟨S_, .f32⟩
  | .hbm, ⟨73, _⟩ => ⟨S_, .f32⟩
  | .hbm, ⟨74, _⟩ => ⟨S16x128x256, .i1⟩
  | .hbm, ⟨75, _⟩ => ⟨S16x128x256, .f32⟩
  | .hbm, ⟨76, _⟩ => ⟨S16x128x256, .f32⟩
  | .hbm, ⟨77, _⟩ => ⟨S1x16x128x256, .f32⟩
  | .hbm, ⟨78, _⟩ => ⟨S1x16x128x256, .f32⟩
  | .hbm, ⟨79, _⟩ => ⟨S2x16x128x256, .f32⟩
  | .hbm, ⟨80, _⟩ => ⟨S16, .f32⟩
  | .hbm, ⟨81, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S1x16x128x256, .f32⟩
  | .local _ .vmem, ⟨7, _⟩ => ⟨S1x16x128x256, .f32⟩
  | .local _ .vmem, ⟨8, _⟩ => ⟨S128x1024, .bf16⟩
  | .local _ .vmem, ⟨9, _⟩ => ⟨S128x1024, .bf16⟩
  | .local _ .smem, ⟨0, _⟩ => ⟨S16, .f32⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_9 : Ref sig .tc := ⟨.hbm, 51, rfl⟩
abbrev main_v37 : Ref sig .tc := ⟨.hbm, 52, rfl⟩
abbrev main_v38 : Ref sig .tc := ⟨.hbm, 53, rfl⟩
abbrev main_c_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_4 (i : grid0.Coords) : Fin 4 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x1280 : Shape := ⟨2, ![16384, 1280]⟩
abbrev S32x16 : Shape := ⟨2, ![32, 16]⟩
abbrev S1x16 : Shape := ⟨2, ![1, 16]⟩
abbrev S1x16384x1280 : Shape := ⟨3, ![1, 16384, 1280]⟩
abbrev S1x16384x1024 : Shape := ⟨3, ![1, 16384, 1024]⟩
abbrev S1x16384x128 : Shape := ⟨3, ![1, 16384, 128]⟩
abbrev S16 : Shape := ⟨1, ![16]⟩
abbrev S1x128x128x2x8x64 : Shape := ⟨6, ![1, 128, 128, 2, 8, 64]⟩
abbrev S1x128x128x2x64 : Shape := ⟨5, ![1, 128, 128, 2, 64]⟩
abbrev S1x1x128x2x64 : Shape := ⟨5, ![1, 1, 128, 2, 64]⟩
abbrev S_ : Shape := ⟨0, ![]⟩
abbrev S1x127x128x2x64 : Shape := ⟨5, ![1, 127, 128, 2, 64]⟩
abbrev S1x128x256x2x64 : Shape := ⟨5, ![1, 128, 256, 2, 64]⟩
abbrev S1x128x2x256x128x8 : Shape := ⟨6, ![1, 128, 2, 256, 128, 8]⟩
abbrev S1x128x2x8x128x256 : Shape := ⟨6, ![1, 128, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S1x128x1x1x128x256 : Shape := ⟨6, ![1, 128, 1, 1, 128, 256]⟩
abbrev S1x1x2x8x128x256 : Shape := ⟨6, ![1, 1, 2, 8, 128, 256]⟩
abbrev S1x1x2x8x1x1 : Shape := ⟨6, ![1, 1, 2, 8, 1, 1]⟩
abbrev S1x128x2x8x128 : Shape := ⟨5, ![1, 128, 2, 8, 128]⟩
abbrev S1x128x2x8x128x1 : Shape := ⟨6, ![1, 128, 2, 8, 128, 1]⟩
abbrev S1x128x2x64x8x128 : Shape := ⟨6, ![1, 128, 2, 64, 8, 128]⟩
abbrev S16384x1024 : Shape := ⟨2, ![16384, 1024]⟩

abbrev nBuf : Space → Nat
  | .hbm => 129
  | .vmem => 0
  | .smem => 0
  | _ => 0

abbrev hbmTy0_0 (i : Nat) : BufTy := match i % 128 with
  | 0 => ⟨S16384x1280, .bf16⟩
  | 1 => ⟨S32x16, .f32⟩
  | 2 => ⟨S1x16, .f32⟩
  | 3 => ⟨S16384x1280, .f32⟩
  | 4 => ⟨S1x16384x1280, .f32⟩
  | 5 => ⟨S1x16384x1024, .f32⟩
  | 6 => ⟨S1x16384x128, .f32⟩
  | 7 => ⟨S1x16384x128, .f32⟩
  | 8 => ⟨S16, .f32⟩
  | 9 => ⟨S1x128x128x2x8x64, .f32⟩
  | 10 => ⟨S1x128x128x2x64, .f32⟩
  | 11 => ⟨S1x128x128x2x64, .f32⟩
  | 12 => ⟨S1x1x128x2x64, .f32⟩
  | 13 => ⟨S_, .f32⟩
  | 14 => ⟨S1x1x128x2x64, .f32⟩
  | 15 => ⟨S1x127x128x2x64, .f32⟩
  | 16 => ⟨S1x128x128x2x64, .f32⟩
  | 17 => ⟨S1x128x256x2x64, .f32⟩
  | 18 => ⟨S1x127x128x2x64, .f32⟩
  | 19 => ⟨S1x128x128x2x64, .f32⟩
  | 20 => ⟨S1x128x256x2x64, .f32⟩
  | 21 => ⟨S1x128x2x256x128x8, .f32⟩
  | 22 => ⟨S1x128x2x8x128x256, .f32⟩
  | 23 => ⟨S_, .f32⟩
  | 24 => ⟨S1x128x2x8x128x256, .f32⟩
  | 25 => ⟨S1x128x2x8x128x256, .f32⟩
  | 26 => ⟨S128, .i32⟩
  | 27 => ⟨S128x1, .i32⟩
  | 28 => ⟨S_, .i32⟩
  | 29 => ⟨S128x1, .i32⟩
  | 30 => ⟨S128x1, .i32⟩
  | 31 => ⟨S256, .i32⟩
  | 32 => ⟨S1x256, .i32⟩
  | 33 => ⟨S128x256, .i32⟩
  | 34 => ⟨S128x256, .i32⟩
  | 35 => ⟨S128x256, .i32⟩
  | 36 => ⟨S_, .i32⟩
  | 37 => ⟨S128x256, .i32⟩
  | 38 => ⟨S128x256, .i32⟩
  | 39 => ⟨S_, .i32⟩
  | 40 => ⟨S128x256, .i32⟩
  | 41 => ⟨S128x256, .i32⟩
  | 42 => ⟨S128x256, .f32⟩
  | 43 => ⟨S_, .f32⟩
  | 44 => ⟨S128x256, .f32⟩
  | 45 => ⟨S128x256, .f32⟩
  | 46 => ⟨S128x256, .f32⟩
  | 47 => ⟨S_, .f32⟩
  | 48 => ⟨S128x256, .f32⟩
  | 49 => ⟨S128x256, .f32⟩
  | 50 => ⟨S_, .f32⟩
  | 51 => ⟨S128x256, .f32⟩
  | 52 => ⟨S128x256, .f32⟩
  | 53 => ⟨S128x256, .i32⟩
  | 54 => ⟨S_, .i32⟩
  | 55 => ⟨S128x256, .i32⟩
  | 56 => ⟨S128x256, .i32⟩
  | 57 => ⟨S_, .i32⟩
  | 58 => ⟨S128x256, .i32⟩
  | 59 => ⟨S128x256, .i32⟩
  | 60 => ⟨S_, .i32⟩
  | 61 => ⟨S128x256, .i32⟩
  | 62 => ⟨S128x256, .i1⟩
  | 63 => ⟨S128x256, .i32⟩
  | 64 => ⟨S_, .i32⟩
  | 65 => ⟨S128x256, .i32⟩
  | 66 => ⟨S128x256, .i1⟩
  | 67 => ⟨S_, .i32⟩
  | 68 => ⟨S128x256, .i32⟩
  | 69 => ⟨S128x256, .i32⟩
  | 70 => ⟨S128x256, .i32⟩
  | 71 => ⟨S128x256x1, .i32⟩
  | 72 => ⟨S128x256x16, .f32⟩
  | 73 => ⟨S16x128x256, .f32⟩
  | 74 => ⟨S2x8x128x256, .f32⟩
  | 75 => ⟨S_, .i32⟩
  | 76 => ⟨S128x256, .i32⟩
  | 77 => ⟨S128x256, .i1⟩
  | 78 => ⟨S_, .i32⟩
  | 79 => ⟨S128x256, .i32⟩
  | 80 => ⟨S128x256, .i1⟩
  | 81 => ⟨S128x256, .i1⟩
  | 82 => ⟨S128, .i32⟩
  | 83 => ⟨S128x1x1, .i32⟩
  | 84 => ⟨S1x128x256, .i1⟩
  | 85 => ⟨S_, .i32⟩
  | 86 => ⟨S128x1x1, .i32⟩
  | 87 => ⟨S128x1x1, .i1⟩
  | 88 => ⟨S_, .i32⟩
  | 89 => ⟨S1x256, .i32⟩
  | 90 => ⟨S1x256, .i1⟩
  | 91 => ⟨S1x1x256, .i1⟩
  | 92 => ⟨S128x1x256, .i1⟩
  | 93 => ⟨S128x1x256, .i1⟩
  | 94 => ⟨S128x1x256, .i1⟩
  | 95 => ⟨S128x128x256, .i1⟩
  | 96 => ⟨S128x128x256, .i1⟩
  | 97 => ⟨S128x128x256, .i1⟩
  | 98 => ⟨S1x128x1x1x128x256, .i1⟩
  | 99 => ⟨S1x1x2x8x128x256, .f32⟩
  | 100 => ⟨S1x128x2x8x128x256, .f32⟩
  | 101 => ⟨S1x128x2x8x128x256, .f32⟩
  | 102 => ⟨S_, .f32⟩
  | 103 => ⟨S_, .f32⟩
  | 104 => ⟨S1x128x2x8x128x256, .i1⟩
  | 105 => ⟨S1x128x2x8x128x256, .f32⟩
  | 106 => ⟨S1x128x2x8x128x256, .f32⟩
  | 107 => ⟨S1x1x2x8x1x1, .f32⟩
  | 108 => ⟨S_, .f32⟩
  | 109 => ⟨S1x128x2x8x128, .f32⟩
  | 110 => ⟨S1x128x2x8x128x1, .f32⟩
  | 111 => ⟨S1x128x2x8x128x1, .f32⟩
  | 112 => ⟨S1x128x2x8x128x1, .f32⟩
  | 113 => ⟨S1x128x2x8x128x256, .f32⟩
  | 114 => ⟨S1x128x2x8x128x256, .f32⟩
  | 115 => ⟨S1x128x2x8x128x256, .f32⟩
  | 116 => ⟨S_, .f32⟩
  | 117 => ⟨S1x128x2x8x128, .f32⟩
  | 118 => ⟨S1x128x2x8x128x1, .f32⟩
  | 119 => ⟨S1x128x2x8x128x1, .f32⟩
  | 120 => ⟨S1x128x2x8x128x1, .f32⟩
  | 121 => ⟨S1x128x2x8x128x1, .f32⟩
  | 122 => ⟨S1x128x2x8x128x1, .f32⟩
  | 123 => ⟨S1x128x2x8x128x256, .f32⟩
  | 124 => ⟨S1x128x2x8x128x256, .f32⟩
  | 125 => ⟨S1x128x2x64x8x128, .f32⟩
  | 126 => ⟨S1x128x128x2x8x64, .f32⟩
  | 127 => ⟨S16384x1024, .f32⟩
  | _ => ⟨S16384x1280, .bf16⟩

abbrev hbmTy0_1 (i : Nat) : BufTy := match i % 128 with
  | 0 => ⟨S16384x1024, .bf16⟩
  | _ => ⟨S16384x1280, .bf16⟩

abbrev hbmTy (i : Nat) : BufTy := match i / 128 with
  | 0 => hbmTy0_0 i
  | 1 => hbmTy0_1 i
  | _ => ⟨S16384x1280, .bf16⟩

abbrev bufTy : (tb : Table) → Fin (tcTables nBuf tb) → BufTy
  | .hbm, ⟨i, _⟩ => hbmTy i
  | _, _ => ⟨S16384x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_1 : Ref sig .tc := ⟨.hbm, 36, rfl⟩
abbrev main_v30 : Ref sig .tc := ⟨.hbm, 37, rfl⟩
abbrev main_v31 : Ref sig .tc := ⟨.hbm, 38, rfl⟩
abbrev main_c_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_9 : Ref sig .tc := ⟨.hbm, 64, rfl⟩
abbrev main_v50 : Ref sig .tc := ⟨.hbm, 65, rfl⟩
abbrev main_v51 : Ref sig .tc := ⟨.hbm, 66, rfl⟩
abbrev main_c_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_11 : Ref sig .tc := ⟨.hbm, 75, rfl⟩
abbrev main_v59 : Ref sig .tc := ⟨.hbm, 76, rfl⟩
abbrev main_v60 : Ref sig .tc := ⟨.hbm, 77, rfl⟩
abbrev main_c_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_13 : Ref sig .tc := ⟨.hbm, 85, rfl⟩
abbrev main_v67 : Ref sig .tc := ⟨.hbm, 86, rfl⟩
abbrev main_v68 : Ref sig .tc := ⟨.hbm, 87, rfl⟩
abbrev main_c_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩

abbrev nD : Nat := 1
abbrev τ : Topo := Topo.v7x

variable {F : FTy → Type} [FloatOps F]
-- ==== FfnKernel.lean ====
abbrev S16384x1024 : Shape := ⟨2, ![16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S512x1024 : Shape := ⟨2, ![512, 1024]⟩
abbrev S8x5632 : Shape := ⟨2, ![8, 5632]⟩
abbrev S512x2816 : Shape := ⟨2, ![512, 2816]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩
abbrev S504x256 : Shape := ⟨2, ![504, 256]⟩
abbrev S512 : Shape := ⟨1, ![512]⟩
abbrev S512x1 : Shape := ⟨2, ![512, 1]⟩

abbrev nBuf : Space → Nat
  | .hbm => 19
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S3x5632, .f32⟩
  | .hbm, ⟨10, _⟩ => ⟨S5632, .f32⟩
  | .hbm, ⟨11, _⟩ => ⟨S1x5632, .f32⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S3x5632, .f32⟩
  | .local _ .vmem, ⟨4, _⟩ => ⟨S1x5632, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x5632, .f32⟩
  | .local _ .vmem, ⟨11, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S16384x1024 : Shape := ⟨2, ![16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S16384x5632 : Shape := ⟨2, ![16384, 5632]⟩
abbrev S3x5632 : Shape := ⟨2, ![3, 5632]⟩
abbrev S5632 : Shape := ⟨1, ![5632]⟩
abbrev S_ : Shape := ⟨0, ![]⟩
abbrev S16386x5632 : Shape := ⟨2, ![16386, 5632]⟩
abbrev S16384x2816 : Shape := ⟨2, ![16384, 2816]⟩
abbrev S2816x1024 : Shape := ⟨2, ![2816, 1024]⟩
abbrev S1024 : Shape := ⟨1, ![1024]⟩
abbrev S16384 : Shape := ⟨1, ![16384]⟩
abbrev S16384x1 : Shape := ⟨2, ![16384, 1]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S16384x5632, .f32⟩
  | .hbm, ⟨9, _⟩ => ⟨S3x5632, .f32⟩
  | .hbm, ⟨10, _⟩ => ⟨S5632, .f32⟩
  | .hbm, ⟨11, _⟩ => ⟨S_, .i32⟩
  | .hbm, ⟨12, _⟩ => ⟨S_, .f32⟩
  | .hbm, ⟨13, _⟩ => ⟨S16386x5632, .f32⟩
  | .hbm, ⟨14, _⟩ => ⟨S1x5632, .f32⟩
  | .hbm, ⟨15, _⟩ => ⟨S5632, .f32⟩
  | .hbm, ⟨16, _⟩ => ⟨S16384x5632, .f32⟩
  | .hbm, ⟨17, _⟩ => ⟨S1x5632, .f32⟩
  | .hbm, ⟨18, _⟩ => ⟨S16384x5632, .f32⟩
  | .hbm, ⟨19, _⟩ => ⟨S16384x5632, .f32⟩
  | .hbm, ⟨20, _⟩ => ⟨S_, .f32⟩
  | .hbm, ⟨21, _⟩ => ⟨S16384x5632, .f32⟩
  | .hbm, ⟨22, _⟩ => ⟨S16384x5632, .f32⟩
  | .hbm, ⟨23, _⟩ => ⟨S1x5632, .f32⟩
  | .hbm, ⟨24, _⟩ => ⟨S5632, .f32⟩
  | .hbm, ⟨25, _⟩ => ⟨S16384x5632, .f32⟩
  | .hbm, ⟨26, _⟩ => ⟨S1x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S1x5632, .f32⟩
  | .hbm, ⟨31, _⟩ => ⟨S5632, .f32⟩
  | .hbm, ⟨32, _⟩ => ⟨S16384x5632, .f32⟩
  | .hbm, ⟨33, _⟩ => ⟨S1x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S1x5632, .f32⟩
  | .hbm, ⟨38, _⟩ => ⟨S16384x5632, .f32⟩
  | .hbm, ⟨39, _⟩ => ⟨S16384x5632, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S_, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S2816x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_cst_2 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== InprojKernel.lean ====
abbrev S1x16384x1024 : Shape := ⟨3, ![1, 16384, 1024]⟩
abbrev S1x1024x8480 : Shape := ⟨3, ![1, 1024, 8480]⟩
abbrev S16384x1024 : Shape := ⟨2, ![16384, 1024]⟩
abbrev S1024x8480 : Shape := ⟨2, ![1024, 8480]⟩
abbrev S_ : Shape := ⟨0, ![]⟩
abbrev S1024x96 : Shape := ⟨2, ![1024, 96]⟩
abbrev S1024x5120 : Shape := ⟨2, ![1024, 5120]⟩
abbrev S1024x3328 : Shape := ⟨2, ![1024, 3328]⟩
abbrev S1024x32 : Shape := ⟨2, ![1024, 32]⟩
abbrev S1024x8576 : Shape := ⟨2, ![1024, 8576]⟩
abbrev S16384x2048 : Shape := ⟨2, ![16384, 2048]⟩
abbrev S16384x3072 : Shape := ⟨2, ![16384, 3072]⟩
abbrev S16384x1280 : Shape := ⟨2, ![16384, 1280]⟩
abbrev S16384x128 : Shape := ⟨2, ![16384, 128]⟩
abbrev S512x1024 : Shape := ⟨2, ![512, 1024]⟩
abbrev S512x2048 : Shape := ⟨2, ![512, 2048]⟩
abbrev S512x3072 : Shape := ⟨2, ![512, 3072]⟩
abbrev S512x1280 : Shape := ⟨2, ![512, 1280]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 16
  | .vmem => 13
  | .smem => 0
  | _ => 0

abbrev bufTy : (tb : Table) → Fin (tcTables nBuf tb) → BufTy
  | .hbm, ⟨0, _⟩ => ⟨S1x16384x1024, .f32⟩
  | .hbm, ⟨1, _⟩ => ⟨S1x1024x8480, .f32⟩
  | .hbm, ⟨2, _⟩ => ⟨S16384x1024, .f32⟩
  | .hbm, ⟨3, _⟩ => ⟨S1024x8480, .f32⟩
  | .hbm, ⟨4, _⟩ => ⟨S_, .f32⟩
  | .hbm, ⟨5, _⟩ => ⟨S1024x96, .f32⟩
  | .hbm, ⟨6, _⟩ => ⟨S1024x5120, .f32⟩
  | .hbm, ⟨7, _⟩ => ⟨S1024x3328, .f32⟩
  | .hbm, ⟨8, _⟩ => ⟨S1024x32, .f32⟩
  | .hbm, ⟨9, _⟩ => ⟨S1024x8576, .f32⟩
  | .hbm, ⟨10, _⟩ => ⟨S1024x8576, .bf16⟩
  | .hbm, ⟨11, _⟩ => ⟨S16384x2048, .bf16⟩
  | .hbm, ⟨12, _⟩ => ⟨S16384x3072, .bf16⟩
  | .hbm, ⟨13, _⟩ => ⟨S16384x1280, .bf16⟩
  | .hbm, ⟨14, _⟩ => ⟨S16384x2048, .bf16⟩
  | .hbm, ⟨15, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1024x8576, .bf16⟩
  | .local _ .vmem, ⟨3, _⟩ => ⟨S512x2048, .bf16⟩
  | .local _ .vmem, ⟨4, _⟩ => ⟨S512x2048, .bf16⟩
  | .local _ .vmem, ⟨5, _⟩ => ⟨S512x3072, .bf16⟩
  | .local _ .vmem, ⟨6, _⟩ => ⟨S512x3072, .bf16⟩
  | .local _ .vmem, ⟨7, _⟩ => ⟨S512x1280, .bf16⟩
  | .local _ .vmem, ⟨8, _⟩ => ⟨S512x1280, .bf16⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev main_v8_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InprojReferenceIdeal.lean ====
abbrev S1x16384x1024 : Shape := ⟨3, ![1, 16384, 1024]⟩
abbrev S1x1024x8480 : Shape := ⟨3, ![1, 1024, 8480]⟩
abbrev S1024x8480 : Shape := ⟨2, ![1024, 8480]⟩
abbrev S1x16384x8480 : Shape := ⟨3, ![1, 16384, 8480]⟩
abbrev S16384x8480 : Shape := ⟨2, ![16384, 8480]⟩
abbrev S16384x2048 : Shape := ⟨2, ![16384, 2048]⟩
abbrev S16384x3072 : Shape := ⟨2, ![16384, 3072]⟩
abbrev S16384x32 : Shape := ⟨2, ![16384, 32]⟩
abbrev S16384x1024 : Shape := ⟨2, ![16384, 1024]⟩
abbrev S16384x128 : Shape := ⟨2, ![16384, 128]⟩
abbrev S16384x1280 : Shape := ⟨2, ![16384, 1280]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024x8480, .f32⟩
  | .hbm, ⟨2, _⟩ => ⟨S1024x8480, .f32⟩
  | .hbm, ⟨3, _⟩ => ⟨S1x16384x8480, .f32⟩
  | .hbm, ⟨4, _⟩ => ⟨S16384x8480, .f32⟩
  | .hbm, ⟨5, _⟩ => ⟨S16384x2048, .f32⟩
  | .hbm, ⟨6, _⟩ => ⟨S16384x3072, .f32⟩
  | .hbm, ⟨7, _⟩ => ⟨S16384x32, .f32⟩
  | .hbm, ⟨8, _⟩ => ⟨S16384x1024, .f32⟩
  | .hbm, ⟨9, _⟩ => ⟨S16384x128, .f32⟩
  | .hbm, ⟨10, _⟩ => ⟨S16384x128, .f32⟩
  | .hbm, ⟨11, _⟩ => ⟨S16384x2048, .f32⟩
  | .hbm, ⟨12, _⟩ => ⟨S16384x1280, .f32⟩
  | .hbm, ⟨13, _⟩ => ⟨S16384x2048, .bf16⟩
  | .hbm, ⟨14, _⟩ => ⟨S16384x3072, .bf16⟩
  | .hbm, ⟨15, _⟩ => ⟨S16384x1280, .bf16⟩
  | .hbm, ⟨16, _⟩ => ⟨S16384x2048, .bf16⟩
  | .hbm, ⟨17, _⟩ => ⟨S_, .i32⟩
  | .hbm, ⟨18, _⟩ => ⟨S_, .f32⟩
  | .hbm, ⟨19, _⟩ => ⟨S16384x128, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== MergeKernel.lean ====
abbrev S16384x2048 : Shape := ⟨2, ![16384, 2048]⟩
abbrev S16384x1024 : Shape := ⟨2, ![16384, 1024]⟩
abbrev S1x16384x1024 : Shape := ⟨3, ![1, 16384, 1024]⟩
abbrev S1x2048x1024 : Shape := ⟨3, ![1, 2048, 1024]⟩
abbrev S1x1024x1024 : Shape := ⟨3, ![1, 1024, 1024]⟩
abbrev S1x2048 : Shape := ⟨2, ![1, 2048]⟩
abbrev S1x1024 : Shape := ⟨2, ![1, 1024]⟩
abbrev S2048x1024 : Shape := ⟨2, ![2048, 1024]⟩
abbrev S1024x1024 : Shape := ⟨2, ![1024, 1024]⟩
abbrev S2048 : Shape := ⟨1, ![2048]⟩
abbrev S1024 : Shape := ⟨1, ![1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x2048, .bf16⟩
  | .hbm, ⟨3, _⟩ => ⟨S1x16384x1024, .f32⟩
  | .hbm, ⟨4, _⟩ => ⟨S1x2048x1024, .f32⟩
  | .hbm, ⟨5, _⟩ => ⟨S1x1024x1024, .f32⟩
  | .hbm, ⟨6, _⟩ => ⟨S1x1024x1024, .f32⟩
  | .hbm, ⟨7, _⟩ => ⟨S1x2048, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S2048x1024, .f32⟩
  | .hbm, ⟨12, _⟩ => ⟨S2048x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S2048, .f32⟩
  | .hbm, ⟨18, _⟩ => ⟨S1x2048, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x2048, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S16384x2048 : Shape := ⟨2, ![16384, 2048]⟩
abbrev S16384x1024 : Shape := ⟨2, ![16384, 1024]⟩
abbrev S1x16384x1024 : Shape := ⟨3, ![1, 16384, 1024]⟩
abbrev S1x2048x1024 : Shape := ⟨3, ![1, 2048, 1024]⟩
abbrev S1x1024x1024 : Shape := ⟨3, ![1, 1024, 1024]⟩
abbrev S1x2048 : Shape := ⟨2, ![1, 2048]⟩
abbrev S1x1024 : Shape := ⟨2, ![1, 1024]⟩
abbrev S2048 : Shape := ⟨1, ![2048]⟩
abbrev S_ : Shape := ⟨0, ![]⟩
abbrev S2048x1024 : Shape := ⟨2, ![2048, 1024]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x2048, .bf16⟩
  | .hbm, ⟨3, _⟩ => ⟨S1x16384x1024, .f32⟩
  | .hbm, ⟨4, _⟩ => ⟨S1x2048x1024, .f32⟩
  | .hbm, ⟨5, _⟩ => ⟨S1x1024x1024, .f32⟩
  | .hbm, ⟨6, _⟩ => ⟨S1x1024x1024, .f32⟩
  | .hbm, ⟨7, _⟩ => ⟨S1x2048, .f32⟩
  | .hbm, ⟨8, _⟩ => ⟨S1x1024, .f32⟩
  | .hbm, ⟨9, _⟩ => ⟨S1x1024, .f32⟩
  | .hbm, ⟨10, _⟩ => ⟨S16384x2048, .f32⟩
  | .hbm, ⟨11, _⟩ => ⟨S16384x1024, .f32⟩
  | .hbm, ⟨12, _⟩ => ⟨S16384x2048, .f32⟩
  | .hbm, ⟨13, _⟩ => ⟨S2048, .f32⟩
  | .hbm, ⟨14, _⟩ => ⟨S1x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x1024, .f32⟩
  | .hbm, ⟨26, _⟩ => ⟨S16384x1024, .f32⟩
  | .hbm, ⟨27, _⟩ => ⟨S2048x1024, .f32⟩
  | .hbm, ⟨28, _⟩ => ⟨S16384x1024, .f32⟩
  | .hbm, ⟨29, _⟩ => ⟨S16384x1024, .f32⟩
  | .hbm, ⟨30, _⟩ => ⟨S1024x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Proof.Attn.Softmax.lean ====
/-
  ONE ROW OF ATTENTION WITH A SINK, in the extended reals: weights `exp (l − M)` over their sum and the sink's weight, `M` the largest
  of the logits and the sink. Dividing each weight before the values are summed, or multiplying the sum by the reciprocal after, is the
  same when the sink is a number and no logit is `+∞`; a logit `−∞` has weight zero, so its value does not matter.
-/
module

public import Idealize.ShloMosaic.Lib.Pipeline.ValueKit

@[expose] public section

set_option maxRecDepth 16384

noncomputable section

namespace Cert.Attn

open Idealize.ShloMosaic

/-- The largest of the logits and the sink. -/
def top (lg : Fin 256 → EReal) (sink : EReal) : EReal :=
  max (Finset.univ.fold max (Ideal.ofBits .f32 0xFF800000#32) lg) sink

/-- A weight before normalisation. -/
def wt (lg : Fin 256 → EReal) (sink : EReal) (s : Fin 256) : EReal := Ideal.exp (lg s - top lg sink)

/-- The sum of the weights and the sink's. -/
def den (lg : Fin 256 → EReal) (sink : EReal) : EReal := ∑ s, wt lg sink s + Ideal.exp (sink - top lg sink)

/-- The values weighted by the normalised weights. -/
def attBefore (lg : Fin 256 → EReal) (sink : EReal) (v : Fin 256 → EReal) : EReal :=
  ∑ s, v s * Ideal.div (wt lg sink s) (den lg sink)

/-- The weighted values, normalised after they are summed. -/
def attAfter (lg : Fin 256 → EReal) (sink : EReal) (v : Fin 256 → EReal) : EReal :=
  (∑ s, wt lg sink s * v s) * Ideal.div 1 (den lg sink)

theorem negInf : Ideal.ofBits .f32 0xFF800000#32 = ⊥ := by
  simp [Ideal.ofBits, Ideal.ieee]

theorem eighth : Ideal.ofBits .f32 0x3E000000#32 = ((8⁻¹ : ℝ) : EReal) := by
  simp [Ideal.ofBits, Ideal.ieee, -EReal.coe_mul]
  norm_num

theorem one_bits : Ideal.ofBits .f32 0x3F800000#32 = 1 := by
  simp [Ideal.ofBits, Ideal.ieee, -EReal.coe_mul]
  norm_num

/-- The top of numbers and `−∞`s beside a number is a number. -/
theorem top_real {lg : Fin 256 → EReal} {x : ℝ} (hl : ∀ s, lg s ≠ ⊤) : ∃ M : ℝ, top lg (x : EReal) = (M : EReal) := by
  have h1 : top lg (x : EReal) ≠ ⊤ := by
    unfold top
    rw [negInf]
    refine ne_of_lt (max_lt ?_ (EReal.coe_lt_top x))
    rw [Finset.fold_max_lt]
    exact ⟨bot_lt_top, fun s _ => lt_top_iff_ne_top.mpr (hl s)⟩
  have h2 : top lg (x : EReal) ≠ ⊥ := fun h => by
    have : (x : EReal) ≤ ⊥ := by rw [← h]; exact le_max_right _ _
    exact absurd (le_bot_iff.mp this) (EReal.coe_ne_bot x)
  exact ⟨(top lg x).toReal, (EReal.coe_toReal h1 h2).symm⟩

/-- A weight is a number, not negative. -/
theorem exp_real {l : EReal} {M : ℝ} (hl : l ≠ ⊤) : ∃ p : ℝ, 0 ≤ p ∧ Ideal.exp (l - (M : EReal)) = (p : EReal) := by
  induction l with
  | bot => exact ⟨0, le_refl _, by rw [EReal.bot_sub]; rfl⟩
  | coe l => exact ⟨Real.exp (l - M), (Real.exp_pos _).le, by rw [← EReal.coe_sub]; rfl⟩
  | top => exact absurd rfl hl

/-- The denominator is a positive number. -/
theorem den_real {lg : Fin 256 → EReal} {x : ℝ} (hl : ∀ s, lg s ≠ ⊤) : ∃ d : ℝ, 0 < d ∧ den lg (x : EReal) = (d : EReal) := by
  obtain ⟨M, hM⟩ := top_real (x := x) hl
  choose p hp0 hp using fun s => exp_real (M := M) (hl s)
  refine ⟨∑ s, p s + Real.exp (x - M), add_pos_of_nonneg_of_pos (Finset.sum_nonneg fun s _ => hp0 s) (Real.exp_pos _), ?_⟩
  have hw : ∀ s, wt lg (x : EReal) s = (p s : EReal) := fun s => by rw [wt, hM, hp]
  unfold den
  rw [Finset.sum_congr rfl fun s _ => hw s, hM, ← EReal.coe_sub, EReal.coe_add]
  exact congrArg (· + ((Real.exp (x - M) : ℝ) : EReal)) (map_sum (⟨⟨Real.toEReal, EReal.coe_zero⟩, EReal.coe_add⟩ : ℝ →+ EReal) p Finset.univ).symm

/-- A nonnegative number times a sum is the sum of the products. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- Normalising before the sum or after it is the same; values at logits `−∞` do not matter. -/
theorem attAfter_eq {lg : Fin 256 → EReal} {x : ℝ} (hl : ∀ s, lg s ≠ ⊤) {v v' : Fin 256 → EReal}
    (hv : ∀ s, lg s = ⊥ ∨ v s = v' s) : attAfter lg (x : EReal) v = attBefore lg (x : EReal) v' := by
  obtain ⟨M, hM⟩ := top_real (x := x) hl
  obtain ⟨d, hd, hD⟩ := den_real (x := x) hl
  have hdiv : ∀ y : EReal, Ideal.div y (d : EReal) = y * ((d⁻¹ : ℝ) : EReal) := fun y => by
    rw [Ideal.div, if_neg (by simpa using hd.ne'), EReal.coe_inv]
  have h1 : ((1 : EReal) * ((d⁻¹ : ℝ) : EReal)) = ((d⁻¹ : ℝ) : EReal) := one_mul _
  unfold attAfter attBefore
  rw [hD]
  simp only [hdiv, h1]
  rw [sum_mul_real _ _ (inv_nonneg.mpr hd.le)]
  refine Finset.sum_congr rfl fun s _ => ?_
  rcases hv s with h | h
  · have h0 : wt lg (x : EReal) s = 0 := by rw [wt, h, hM, EReal.bot_sub]; rfl
    rw [h0, zero_mul, zero_mul, mul_zero]
  · rw [h, mul_comm (wt _ _ _), mul_assoc]

end Cert.Attn

end
-- ==== Proof.Attn.Payload.lean ====
/-
  THE ATTENTION KERNEL'S ARITHMETIC, entry by entry: what one of its eight stores leaves in a block of 128 columns (two heads), over
  the loaded blocks.
-/
module

public import proofs.«01_k».proof.Proof.Attn.Softmax
public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.SL.Sem

variable (K K0 K1 : FVec Ideal S256x128 .bf16) (Q : FVec Ideal S128x128 .bf16) (z s0 s1 : Elt Ideal .f32)
  (B B0 B1 : FVec Ideal S1x1x128x256 .f32) (Vb : FVec Ideal S512x128 .bf16)

/-- The kernel's logits of one head. -/
def klg (r : Fin 128) (s : Fin 256) : EReal :=
  @HAdd.hAdd EReal EReal EReal _ (∑ d : Fin 128, @HMul.hMul EReal EReal EReal _ (Q (ix2 r d)) (K (ix2 s d))) (B (ix4 0 0 r s))

theorem k_lg (r : Fin 128) (s : Fin 256) : k0_pay15 (F := Ideal) K Q B (ix2 r s) = klg K Q B r s := by
  pointwise [k0_pay15]
  rfl

theorem k_top (r : Fin 128) : k0_pay16 (F := Ideal) K Q z B (ix2 r 0) = top (klg K Q B r) z := by
  pointwise [k0_pay16]
  simp only [k_lg]
  rfl

theorem k_wt (r : Fin 128) (s : Fin 256) : k0_pay17 (F := Ideal) K Q z B (ix2 r s) = wt (klg K Q B r) z s := by
  pointwise [k0_pay17]
  rw [k_lg, k_top]
  rfl

theorem k_inv (r : Fin 128) : k0_pay19 (F := Ideal) K Q z B (ix2 r 0) = Ideal.div 1 (den (klg K Q B r) z) := by
  pointwise [k0_pay19]
  simp only [k_wt, k_top]
  rfl

/-- One of the eight stores. -/
def stored : FVec Ideal S128x128 .bf16 :=
  k0_pay24 (F := Ideal) k0_pay3 Vb (k0_pay18 K0 Q s0 B0) (k0_pay19 K0 Q s0 B0) s1 (k0_pay21 K1 Q s1 B1) (k0_pay22 K1 Q s1 B1)
    (k0_pay23 K1 Q s1 B1)

/-- The left half of a block's columns, in words. -/
theorem left_bit : ∀ l : Fin 128, IntOp.cmpi CmpIPredicate.slt (BitVec.ofNat 32 l.val) 64#32 = BitVec.ofBool (decide (l.val < 64)) := by
  decide +kernel

theorem select_left (l : Fin 128) (x y : EReal) :
    Scalar.select (IntOp.cmpi CmpIPredicate.slt (BitVec.ofNat 32 l.val) 64#32) x y = if l.val < 64 then x else y := by
  rw [left_bit]
  by_cases h : l.val < 64 <;> simp only [h, decide_true, decide_false, if_true, if_false] <;> rfl

theorem stored_read (r l : Fin 128) : stored K0 K1 Q s0 s1 B0 B1 Vb (ix2 r l)
    = @HMul.hMul EReal EReal EReal _
        (∑ s : Fin 256, @HMul.hMul EReal EReal EReal _ (wt (klg K0 Q B0 r) s0 s) (Vb (ix2 ⟨s.val, by omega⟩ l))
          + ∑ s : Fin 256, @HMul.hMul EReal EReal EReal _ (wt (klg K1 Q B1 r) s1 s) (Vb (ix2 ⟨256 + s.val, by omega⟩ l)))
        (if l.val < 64 then Ideal.div 1 (den (klg K0 Q B0 r) s0) else Ideal.div 1 (den (klg K1 Q B1 r) s1)) := by
  have e1 : k0_pay22 (F := Ideal) K1 Q s1 B1 = k0_pay17 K1 Q s1 B1 := rfl
  have e2 : k0_pay21 (F := Ideal) K1 Q s1 B1 = k0_pay16 K1 Q s1 B1 := rfl
  unfold stored
  rw [e1, e2]
  pointwise [k0_pay24, k0_pay3, k0_pay23, k0_pay18, e1]
  rw [select_left, k_inv]
  simp only [k_wt, k_top, e1]
  rfl

/-- The band of one block: the previous block's rows, then its own. -/
def rows (U W : FVec Ideal S128x128 .bf16) (s : Fin 256) (e : Fin 128) : EReal :=
  if h : s.val < 128 then U (ix2 ⟨s.val, h⟩ e) else W (ix2 ⟨s.val - 128, by omega⟩ e)

variable (U W : FVec Ideal S128x128 .bf16)

theorem keys00 (s : Fin 256) (d : Fin 128) : k0_pay8 (F := Ideal) U W (ix2 s d)
    = if d.val < 64 then rows U W s d * Ideal.ofBits .f32 0x3E000000#32 else 0 := by
  pointwise [k0_pay8, k0_pay2, k0_pay4]
  rw [select_left]
  rfl

theorem keys01 (s : Fin 256) (d : Fin 128) : k0_pay9 (F := Ideal) U W (ix2 s d)
    = if d.val < 64 then 0 else rows U W s ⟨(d.val + 128 - 64) % 128, by omega⟩ * Ideal.ofBits .f32 0x3E000000#32 := by
  pointwise [k0_pay9, k0_pay2, k0_pay6, k0_pay4]
  rw [select_left]
  rfl

theorem keys10 (s : Fin 256) (d : Fin 128) : k0_pay10 (F := Ideal) U W (ix2 s d)
    = if d.val < 64 then rows U W s ⟨(d.val + 128 - 64) % 128, by omega⟩ * Ideal.ofBits .f32 0x3E000000#32 else 0 := by
  pointwise [k0_pay10, k0_pay2, k0_pay6, k0_pay4]
  rw [select_left]
  rfl

theorem keys11 (s : Fin 256) (d : Fin 128) : k0_pay11 (F := Ideal) U W (ix2 s d)
    = if d.val < 64 then 0 else rows U W s d * Ideal.ofBits .f32 0x3E000000#32 := by
  pointwise [k0_pay11, k0_pay2, k0_pay4]
  rw [select_left]
  rfl

/-- The values of the first kept head, once for the left columns and once for the right. -/
theorem vals0 (t : Fin 512) (l : Fin 128) : k0_pay12 (F := Ideal) U W (ix2 t l)
    = if h : t.val < 256 then if l.val < 64 then rows U W ⟨t.val, h⟩ l else 0
      else if l.val < 64 then 0 else rows U W ⟨t.val - 256, by omega⟩ ⟨(l.val + 128 - 64) % 128, by omega⟩ := by
  pointwise [k0_pay12, k0_pay2, k0_pay5, k0_pay7]
  refine Eq.trans (b := if h : t.val < 256
    then Scalar.select (IntOp.cmpi CmpIPredicate.slt (BitVec.ofNat 32 l.val) 64#32) (rows U W ⟨t.val, h⟩ l) (0 : EReal)
    else Scalar.select (IntOp.cmpi CmpIPredicate.slt (BitVec.ofNat 32 l.val) 64#32) (0 : EReal) (rows U W ⟨t.val - 256, by omega⟩ ⟨(l.val + 128 - 64) % 128, by omega⟩)) rfl ?_
  simp only [select_left]

theorem vals1 (t : Fin 512) (l : Fin 128) : k0_pay14 (F := Ideal) k0_pay2 (k0_pay5 U W) (k0_pay7 U W) k0_pay13 (ix2 t l)
    = if h : t.val < 256 then if l.val < 64 then rows U W ⟨t.val, h⟩ ⟨(l.val + 128 - 64) % 128, by omega⟩ else 0
      else if l.val < 64 then 0 else rows U W ⟨t.val - 256, by omega⟩ l := by
  pointwise [k0_pay14, k0_pay2, k0_pay5, k0_pay7, k0_pay13]
  refine Eq.trans (b := if h : t.val < 256
    then Scalar.select (IntOp.cmpi CmpIPredicate.slt (BitVec.ofNat 32 l.val) 64#32) (rows U W ⟨t.val, h⟩ ⟨(l.val + 128 - 64) % 128, by omega⟩) (0 : EReal)
    else Scalar.select (IntOp.cmpi CmpIPredicate.slt (BitVec.ofNat 32 l.val) 64#32) (0 : EReal) (rows U W ⟨t.val - 256, by omega⟩ l)) rfl ?_
  simp only [select_left]

/-- One head's logits over the loaded blocks: head `j` of the two in the block, kept head `c`. -/
def hlg (c j : Fin 2) (r : Fin 128) (s : Fin 256) : EReal :=
  @HAdd.hAdd EReal EReal EReal _
    (∑ d : Fin 64, @HMul.hMul EReal EReal EReal _ (Q (ix2 r ⟨j.val * 64 + d.val, by omega⟩))
      (rows U W s ⟨c.val * 64 + d.val, by omega⟩ * Ideal.ofBits .f32 0x3E000000#32)) (B (ix4 0 0 r s))

/-- A sum over 128 is the sums over its halves. -/
theorem sum_halves (f : Fin 128 → EReal) :
    ∑ d, f d = ∑ d : Fin 64, f ⟨d.val, by omega⟩ + ∑ d : Fin 64, f ⟨64 + d.val, by omega⟩ :=
  Fin.sum_univ_add (a := 64) (b := 64) f

/-- A head whose keys fill the left half. -/
theorem klg_left (c : Fin 2) (hK : ∀ s (d : Fin 64), K (ix2 s ⟨d.val, by omega⟩) = rows U W s ⟨c.val * 64 + d.val, by omega⟩ * Ideal.ofBits .f32 0x3E000000#32)
    (hZ : ∀ s (d : Fin 64), K (ix2 s ⟨64 + d.val, by omega⟩) = (0 : EReal)) : klg K Q B = hlg Q B U W c 0 := by
  funext r s
  unfold klg hlg
  rw [sum_halves]
  simp only [hK, hZ, mul_zero, Finset.sum_const_zero, add_zero]
  refine congrArg₂ _ (Finset.sum_congr rfl fun d _ => congrArg₂ _ (congrArg Q (congrArg (ix2 r) (Fin.ext ?_))) rfl) rfl
  simp

/-- A head whose keys fill the right half. -/
theorem klg_right (c : Fin 2) (hK : ∀ s (d : Fin 64), K (ix2 s ⟨64 + d.val, by omega⟩) = rows U W s ⟨c.val * 64 + d.val, by omega⟩ * Ideal.ofBits .f32 0x3E000000#32)
    (hZ : ∀ s (d : Fin 64), K (ix2 s ⟨d.val, by omega⟩) = (0 : EReal)) : klg K Q B = hlg Q B U W c 1 := by
  funext r s
  unfold klg hlg
  rw [sum_halves]
  simp only [hK, hZ, mul_zero, Finset.sum_const_zero, zero_add]
  refine congrArg₂ _ (Finset.sum_congr rfl fun d _ => congrArg₂ _ (congrArg Q (congrArg (ix2 r) (Fin.ext ?_))) rfl) rfl
  simp

theorem klg00 : klg (k0_pay8 (F := Ideal) U W) Q B = hlg Q B U W 0 0 :=
  klg_left _ Q B U W 0 (fun s d => by
    rw [keys00, if_pos (by dsimp only; omega)]
    exact congrArg (· * _) (congrArg (rows U W s) (Fin.ext (by simp)))) (fun s d => by
    rw [keys00, if_neg (by dsimp only; omega)])

theorem klg01 : klg (k0_pay9 (F := Ideal) U W) Q B = hlg Q B U W 0 1 :=
  klg_right _ Q B U W 0 (fun s d => by
    rw [keys01, if_neg (by dsimp only; omega)]
    exact congrArg (· * _) (congrArg (rows U W s) (Fin.ext (by simp; omega)))) (fun s d => by
    rw [keys01, if_pos (by dsimp only; omega)])

theorem klg10 : klg (k0_pay10 (F := Ideal) U W) Q B = hlg Q B U W 1 0 :=
  klg_left _ Q B U W 1 (fun s d => by
    rw [keys10, if_pos (by dsimp only; omega)]
    exact congrArg (· * _) (congrArg (rows U W s) (Fin.ext (by simp; omega)))) (fun s d => by
    rw [keys10, if_neg (by dsimp only; omega)])

theorem klg11 : klg (k0_pay11 (F := Ideal) U W) Q B = hlg Q B U W 1 1 :=
  klg_right _ Q B U W 1 (fun s d => by
    rw [keys11, if_neg (by dsimp only; omega)]
    exact congrArg (· * _) (congrArg (rows U W s) (Fin.ext (by simp)))) (fun s d => by
    rw [keys11, if_pos (by dsimp only; omega)])

/-- What a store leaves: attention with the normalisation after the sum, per head. -/
theorem stored_heads (c : Fin 2) (g : Fin 256 → Fin 64 → EReal)
    (hL : ∀ s (d : Fin 64), Vb (ix2 ⟨s.val, by omega⟩ ⟨d.val, by omega⟩) = g s d)
    (hLz : ∀ s : Fin 256, ∀ d : Fin 64, Vb (ix2 ⟨256 + s.val, by omega⟩ ⟨d.val, by omega⟩) = (0 : EReal))
    (hR : ∀ s (d : Fin 64), Vb (ix2 ⟨256 + s.val, by omega⟩ ⟨64 + d.val, by omega⟩) = g s d)
    (hRz : ∀ s : Fin 256, ∀ d : Fin 64, Vb (ix2 ⟨s.val, by omega⟩ ⟨64 + d.val, by omega⟩) = (0 : EReal))
    (hK0 : klg K0 Q B0 = hlg Q B0 U W c 0) (hK1 : klg K1 Q B1 = hlg Q B1 U W c 1) (r : Fin 128) (d : Fin 64) :
    stored K0 K1 Q s0 s1 B0 B1 Vb (ix2 r ⟨d.val, by omega⟩) = attAfter (hlg Q B0 U W c 0 r) s0 (fun s => g s d)
    ∧ stored K0 K1 Q s0 s1 B0 B1 Vb (ix2 r ⟨64 + d.val, by omega⟩) = attAfter (hlg Q B1 U W c 1 r) s1 (fun s => g s d) := by
  constructor
  · rw [stored_read, if_pos (by dsimp only; omega), hK0, hK1]
    simp only [hL, hLz, mul_zero, Finset.sum_const_zero, add_zero]
    rfl
  · rw [stored_read, if_neg (by dsimp only; omega), hK0, hK1]
    simp only [hR, hRz, mul_zero, Finset.sum_const_zero, zero_add]
    rfl

/-- The stores of the first kept head's query heads. -/
theorem stored0 (U' W' : FVec Ideal S128x128 .bf16) (r : Fin 128) (d : Fin 64) :
    stored (k0_pay8 U W) (k0_pay9 U W) Q s0 s1 B0 B1 (k0_pay12 U' W') (ix2 r ⟨d.val, by omega⟩)
        = attAfter (hlg Q B0 U W 0 0 r) s0 (fun s => rows U' W' s ⟨d.val, by omega⟩)
    ∧ stored (k0_pay8 U W) (k0_pay9 U W) Q s0 s1 B0 B1 (k0_pay12 U' W') (ix2 r ⟨64 + d.val, by omega⟩)
        = attAfter (hlg Q B1 U W 0 1 r) s1 (fun s => rows U' W' s ⟨d.val, by omega⟩) := by
  refine stored_heads _ _ Q s0 s1 B0 B1 _ U W 0 (fun s d => rows U' W' s ⟨d.val, by omega⟩) ?_ ?_ ?_ ?_ (klg00 Q B0 U W) (klg01 Q B1 U W) r d
  · intro s d
    rw [vals0, dif_pos (by dsimp only; omega), if_pos (by dsimp only; omega)]
  · intro s d
    rw [vals0, dif_neg (by dsimp only; omega), if_pos (by dsimp only; omega)]
  · intro s d
    rw [vals0, dif_neg (by dsimp only; omega), if_neg (by dsimp only; omega)]
    exact congrArg₂ (rows U' W') (Fin.ext (by simp)) (Fin.ext (by simp; omega))
  · intro s d
    rw [vals0, dif_pos (by dsimp only; omega), if_neg (by dsimp only; omega)]

/-- The stores of the second kept head's query heads. -/
theorem stored1 (U' W' : FVec Ideal S128x128 .bf16) (r : Fin 128) (d : Fin 64) :
    stored (k0_pay10 U W) (k0_pay11 U W) Q s0 s1 B0 B1 (k0_pay14 k0_pay2 (k0_pay5 U' W') (k0_pay7 U' W') k0_pay13) (ix2 r ⟨d.val, by omega⟩)
        = attAfter (hlg Q B0 U W 1 0 r) s0 (fun s => rows U' W' s ⟨64 + d.val, by omega⟩)
    ∧ stored (k0_pay10 U W) (k0_pay11 U W) Q s0 s1 B0 B1 (k0_pay14 k0_pay2 (k0_pay5 U' W') (k0_pay7 U' W') k0_pay13) (ix2 r ⟨64 + d.val, by omega⟩)
        = attAfter (hlg Q B1 U W 1 1 r) s1 (fun s => rows U' W' s ⟨64 + d.val, by omega⟩) := by
  refine stored_heads _ _ Q s0 s1 B0 B1 _ U W 1 (fun s d => rows U' W' s ⟨64 + d.val, by omega⟩) ?_ ?_ ?_ ?_ (klg10 Q B0 U W) (klg11 Q B1 U W) r d
  · intro s d
    rw [vals1, dif_pos (by dsimp only; omega), if_pos (by dsimp only; omega)]
    exact congrArg₂ (rows U' W') rfl (Fin.ext (by simp; omega))
  · intro s d
    rw [vals1, dif_neg (by dsimp only; omega), if_pos (by dsimp only; omega)]
  · intro s d
    rw [vals1, dif_neg (by dsimp only; omega), if_neg (by dsimp only; omega)]
    exact congrArg₂ (rows U' W') (Fin.ext (by simp)) rfl
  · intro s d
    rw [vals1, dif_pos (by dsimp only; omega), if_neg (by dsimp only; omega)]

end Cert.Attn

end
-- ==== Proof.Attn.Reference.lean ====
/-
  THE ATTENTION'S REFERENCE, entry by entry: one row of attention with a sink (`attBefore`) over the band of keys and values that ends
  with the row's own block.
-/
module

public import proofs.«01_k».proof.Proof.Attn.Softmax
public import proofs.«01_k».proof.Proof.Gen.ReferenceIdeal.Read

@[expose] public section

set_option maxRecDepth 16384

noncomputable section

namespace Cert.Attn

open Cert.ReferenceIdeal Cert.ReferenceIdeal.Read
open Idealize.ShloMosaic Idealize.ShloMosaic.TcCoe Idealize.SL.Sem

variable (X : FVec Ideal S16384x1280 .bf16) (T : FVec Ideal S32x16 .f32) (S : FVec Ideal S1x16 .f32)

/-- Row `s` of the band of block `n` at column `e`: the previous block's rows (zeros before the first block), then the block's own. -/
def bandAt (n : Fin 128) (s : Fin 256) (e : Fin 1280) : EReal :=
  if s.val < 128 then if h : n.val < 1 then 0 else X (ix2 ⟨(n.val - 1) * 128 + s.val % 128, by omega⟩ e)
  else X (ix2 ⟨n.val * 128 + s.val % 128, by omega⟩ e)

/-- The reference's band of keys. -/
theorem ref_k (n : Fin 128) (s : Fin 256) (c : Fin 2) (d : Fin 64) :
    val_main_v13 (F := Ideal) X (ix5 0 n s c d) = bandAt X n s ⟨1024 + (c.val * 64 + d.val), by omega⟩ := by
  pointwise [val_main_v13, val_main_v12, val_main_v11, val_main_v10, val_main_cst, val_main_v7, val_main_v3, val_main_v1, val_main_v0]
  unfold bandAt
  split_ifs
  · rfl
  all_goals exact congrArg X (congrArg (fun r => ix2 r _) (Fin.ext (by dsimp only; omega)))

/-- The reference's band of values. -/
theorem ref_v (n : Fin 128) (s : Fin 256) (c : Fin 2) (d : Fin 64) :
    val_main_v16 (F := Ideal) X (ix5 0 n s c d) = bandAt X n s ⟨1152 + (c.val * 64 + d.val), by omega⟩ := by
  pointwise [val_main_v16, val_main_v15, val_main_v14, val_main_v10, val_main_cst, val_main_v8, val_main_v4, val_main_v1, val_main_v0]
  unfold bandAt
  split_ifs
  · rfl
  all_goals exact congrArg X (congrArg (fun r => ix2 r _) (Fin.ext (by dsimp only; omega)))

/-- A word comparison's bit, chosen by it. -/
theorem select_bit {p : Bool} (x y : EReal) : Scalar.select (BitVec.ofBool p) x y = if p then x else y := by
  cases p <;> rfl

/-- In the window, in words: not ahead and less than 128 back. -/
theorem window_bit : ∀ (r : Fin 128) (s : Fin 256),
    IntOp.andi
      (IntOp.cmpi CmpIPredicate.sge (IntOp.subi (IntOp.addi (BitVec.ofNat 32 r.val) 128#32) (BitVec.ofNat 32 s.val)) 0#32)
      (IntOp.cmpi CmpIPredicate.slt (IntOp.subi (IntOp.addi (BitVec.ofNat 32 r.val) 128#32) (BitVec.ofNat 32 s.val)) 128#32)
    = BitVec.ofBool (decide (s.val ≤ r.val + 128 ∧ r.val < s.val)) := by
  decide +kernel

/-- Past the first block, in words. -/
theorem later_bit : ∀ n : Fin 128, IntOp.cmpi CmpIPredicate.sgt (BitVec.ofNat 32 n.val) 0#32 = BitVec.ofBool (decide (0 < n.val)) := by
  decide +kernel

/-- In the band's second half, in words. -/
theorem own_bit : ∀ s : Fin 256, IntOp.cmpi CmpIPredicate.sge (BitVec.ofNat 32 s.val) 128#32 = BitVec.ofBool (decide (128 ≤ s.val)) := by
  decide +kernel

/-- Where a row may look: not ahead, less than 128 back, and not before the first block. -/
def seen (n r : Fin 128) (s : Fin 256) : Prop := s.val ≤ r.val + 128 ∧ r.val < s.val ∧ (0 < n.val ∨ 128 ≤ s.val)

instance (n r : Fin 128) (s : Fin 256) : Decidable (seen n r s) := by unfold seen; infer_instance

/-- The reference's mask. -/
theorem ref_valid (n r : Fin 128) (s : Fin 256) (x y : EReal) :
    Scalar.select (val_main_v77 (F := Ideal) (ix3 n r s)) x y = if seen n r s then x else y := by
  pointwise [val_main_v77, val_main_v76, val_main_v75, val_main_v74, val_main_v73, val_main_v72, val_main_v71, val_main_v70,
    val_main_v69, val_main_c_14, val_main_v68, val_main_v67, val_main_c_13, val_main_v66, val_main_v65, val_main_v64, val_main_v63,
    val_main_v62, val_main_v61, val_main_c_12, val_main_v60, val_main_v59, val_main_c_11, val_main_v29, val_main_v28, val_main_v27,
    val_main_v26, val_main_v25, val_main_v24, val_main_v23, val_main_c, val_main_v22, val_main_v21]
  rw [window_bit, later_bit, own_bit]
  unfold seen
  by_cases h1 : s.val ≤ r.val + 128 ∧ r.val < s.val <;> by_cases h2 : 0 < n.val <;> by_cases h3 : 128 ≤ s.val <;>
    simp only [h1, h2, h3, ← and_assoc, decide_true, decide_false, or_true, true_or, or_self, and_true, and_false, if_true, if_false] <;> rfl

/-- One logit of the reference. -/
def logit (n : Fin 128) (h : Fin 16) (r : Fin 128) (s : Fin 256) : EReal :=
  if seen n r s then
    (∑ d : Fin 64, bandAt X n s ⟨1024 + (h.val / 8 * 64 + d.val), by omega⟩ * X (ix2 ⟨n.val * 128 + r.val, by omega⟩ ⟨h.val * 64 + d.val, by omega⟩))
        * Ideal.ofBits .f32 0x3E000000#32 + val_main_v56 (F := Ideal) T (ix3 r s h)
  else ⊥

/-- The reference's logits. -/
theorem ref_lg (n : Fin 128) (c : Fin 2) (g : Fin 8) (r : Fin 128) (s : Fin 256) :
    val_main_v82 (F := Ideal) X T (ix6 0 n c g r s) = logit X T n ⟨c.val * 8 + g.val, by omega⟩ r s := by
  pointwise [val_main_v82, val_main_v81, val_main_v80, val_main_v79, val_main_v78, val_main_cst_15, val_main_call1_v0,
    val_main_call1_v1, val_main_call1_v2, val_main_v20, val_main_v19, val_main_v18, val_main_v17, val_main_cst_0, val_main_v6,
    val_main_v2, val_main_v1, val_main_v0, val_main_v58, val_main_v57]
  rw [ref_valid, logit]
  refine ite_congr rfl (fun _ => ?_) (fun _ => negInf)
  refine congrArg₂ (· + ·) (congrArg (· * _) (Finset.sum_congr rfl fun d _ => ?_)) rfl
  rw [ref_k]
  exact congrArg₂ (· * ·) (congrArg (bandAt X n s) (Fin.ext (by dsimp only; omega)))
    (congrArg X (congrArg (ix2 _) (Fin.ext (by dsimp only; omega))))

end Cert.Attn

end
-- ==== Proof.Attn.Weights.lean ====
/-
  THE ATTENTION'S REFERENCE, its weights: largest logit, weights, their sum, and the result over the logits and the band of values.
-/
module

public import proofs.«01_k».proof.Proof.Attn.Reference

@[expose] public section

set_option maxRecDepth 16384

noncomputable section

namespace Cert.Attn

open Cert.ReferenceIdeal Cert.ReferenceIdeal.Read
open Idealize.ShloMosaic Idealize.ShloMosaic.TcCoe Idealize.SL.Sem

variable (X : FVec Ideal S16384x1280 .bf16) (T : FVec Ideal S32x16 .f32) (S : FVec Ideal S1x16 .f32)

/-- The reference's largest logit. -/
theorem ref_max (n : Fin 128) (c : Fin 2) (g : Fin 8) (r : Fin 128) :
    val_main_v84 (F := Ideal) X T (ix5 0 n c g r)
      = Finset.univ.fold max (Ideal.ofBits .f32 0xFF800000#32) (logit X T n ⟨c.val * 8 + g.val, by omega⟩ r) := by
  unfold val_main_v84
  rw [Host.reduce_eq_fold, Shape.ReducesTo.drop_eq_drop _ (by decide : Shape.Reduces S1x128x2x8x128x256 [5] S1x128x2x8x128)]
  rw [Shape.Reduces.fold_filter_drop_single]
  refine congrArg (fun v => Finset.fold max (Ideal.ofBits .f32 0xFF800000#32) v Finset.univ) (funext fun s => ?_)
  refine Eq.trans ?_ (ref_lg X T n c g r s)
  exact congrArg (val_main_v82 (F := Ideal) X T) (funext fun a => Fin.ext (by match a with | ⟨0, _⟩ => rfl | ⟨1, _⟩ => rfl | ⟨2, _⟩ => rfl | ⟨3, _⟩ => rfl | ⟨4, _⟩ => rfl | ⟨5, _⟩ => rfl))

/-- The reference's largest of logits and sink. -/
theorem ref_top (n : Fin 128) (c : Fin 2) (g : Fin 8) (r : Fin 128) :
    val_main_v87 (F := Ideal) X T S (ix6 0 n c g r 0)
      = top (logit X T n ⟨c.val * 8 + g.val, by omega⟩ r) (S (ix2 0 ⟨c.val * 8 + g.val, by omega⟩)) := by
  have h1 : val_main_v85 (F := Ideal) X T (ix6 0 n c g r 0) = val_main_v84 (F := Ideal) X T (ix5 0 n c g r) := by
    pointwise [val_main_v85]
  have h2 : val_main_v86 (F := Ideal) S (ix6 0 n c g r 0) = S (ix2 0 ⟨c.val * 8 + g.val, by omega⟩) := by
    pointwise [val_main_v86, val_main_v83, val_main_v5]
  rw [val_main_v87_apply, h1, h2, ref_max]
  unfold top
  generalize Finset.fold max (Ideal.ofBits .f32 0xFF800000#32) (logit X T n ⟨c.val * 8 + g.val, by omega⟩ r) Finset.univ = q
  rfl

/-- The reference's weights. -/
theorem ref_wt (n : Fin 128) (c : Fin 2) (g : Fin 8) (r : Fin 128) (s : Fin 256) :
    val_main_v90 (F := Ideal) X T S (ix6 0 n c g r s)
      = wt (logit X T n ⟨c.val * 8 + g.val, by omega⟩ r) (S (ix2 0 ⟨c.val * 8 + g.val, by omega⟩)) s := by
  pointwise [val_main_v90, val_main_v89, val_main_v88]
  rw [ref_top, ref_lg]
  rfl

/-- The reference's sum of weights. -/
theorem ref_sum (n : Fin 128) (c : Fin 2) (g : Fin 8) (r : Fin 128) :
    val_main_v91 (F := Ideal) X T S (ix5 0 n c g r)
      = ∑ s, wt (logit X T n ⟨c.val * 8 + g.val, by omega⟩ r) (S (ix2 0 ⟨c.val * 8 + g.val, by omega⟩)) s := by
  rw [val_main_v91_apply]
  have h0 : val_main_cst_17 (F := Ideal) (Shape.Idx.first Gen.h_S_) = 0 := by pointwise [val_main_cst_17]
  rw [h0, zero_add]
  refine Finset.sum_congr rfl fun s _ => ?_
  rw [← ref_wt]
  exact congrArg (val_main_v90 (F := Ideal) X T S) (funext fun a => Fin.ext (by match a with | ⟨0, _⟩ => rfl | ⟨1, _⟩ => rfl | ⟨2, _⟩ => rfl | ⟨3, _⟩ => rfl | ⟨4, _⟩ => rfl | ⟨5, _⟩ => rfl))

/-- The reference's denominators. -/
theorem ref_den (n : Fin 128) (c : Fin 2) (g : Fin 8) (r : Fin 128) :
    val_main_v96 (F := Ideal) X T S (ix6 0 n c g r 0)
      = den (logit X T n ⟨c.val * 8 + g.val, by omega⟩ r) (S (ix2 0 ⟨c.val * 8 + g.val, by omega⟩)) := by
  pointwise [val_main_v96, val_main_v95, val_main_v94, val_main_v93, val_main_v92, val_main_v83, val_main_v5]
  rw [ref_top, ref_sum]
  rfl

/-- THE REFERENCE'S RESULT, entry by entry. -/
theorem ref_out (i : S16384x1024.Idx) (n : Fin 128) (c : Fin 2) (g : Fin 8) (r : Fin 128) (d : Fin 64)
    (h0 : (i 0).val = n.val * 128 + r.val) (h1 : (i 1).val = c.val * 512 + g.val * 64 + d.val) :
    val_main_v102 (F := Ideal) X T S i
      = attBefore (logit X T n ⟨c.val * 8 + g.val, by omega⟩ r) (S (ix2 0 ⟨c.val * 8 + g.val, by omega⟩))
          fun s => bandAt X n s ⟨1152 + (c.val * 64 + d.val), by omega⟩ := by
  pointwise [val_main_v102, val_main_v101, val_main_v100, val_main_v99, val_main_v98, val_main_v97]
  have e0 : ∀ h, (⟨(i 0).val / 128, h⟩ : Fin 128) = n := fun h => Fin.ext (by dsimp only; omega)
  have e1 : ∀ h, (⟨(i 0).val % 128, h⟩ : Fin 128) = r := fun h => Fin.ext (by dsimp only; omega)
  have e2 : ∀ h, (⟨(i 1).val / 512, h⟩ : Fin 2) = c := fun h => Fin.ext (by dsimp only; omega)
  have e3 : ∀ h, (⟨(i 1).val / 64 % 8, h⟩ : Fin 8) = g := fun h => Fin.ext (by dsimp only; omega)
  have e4 : ∀ h, (⟨(i 1).val % 64, h⟩ : Fin 64) = d := fun h => Fin.ext (by dsimp only; omega)
  simp only [e0, e1, e2, e3, e4]
  refine Finset.sum_congr rfl fun s _ => ?_
  rw [ref_v, ref_wt, ref_den]

end Cert.Attn

end
-- ==== Proof.Attn.Core.lean ====
/-
  THE ATTENTION'S TWO FORMS AGREE: a store of the kernel, over blocks that hold the band of a block of rows, against the
  reference's result.
-/
module

public import proofs.«01_k».proof.Proof.Attn.Payload
public import proofs.«01_k».proof.Proof.Attn.Weights

@[expose] public section

set_option maxRecDepth 16384

noncomputable section

namespace Cert.Attn

open Cert.KernelIdeal Cert.KernelIdeal.Gen
open Idealize.ShloMosaic Idealize.ShloMosaic.TcCoe Idealize.SL.Sem

variable (X : FVec Ideal S16384x1280 .bf16) (T : FVec Ideal S32x16 .f32) (S : FVec Ideal S1x16 .f32)

/-- What the equation needs of the arguments: queries and keys, the bias table and the sinks are numbers. -/
structure Real3 : Prop where
  qk : ∀ (i : Fin 16384) (e : Fin 1280), e.val < 1152 → ∃ x : ℝ, X (ix2 i e) = (x : EReal)
  bias : ∀ i, ∃ x : ℝ, T i = (x : EReal)
  sink : ∀ i, ∃ x : ℝ, S i = (x : EReal)

variable {X T S}

/-- A sum of numbers is a number. -/
theorem sum_real {ι : Type*} (s : Finset ι) (f : ι → EReal) (h : ∀ i, ∃ x : ℝ, f i = (x : EReal)) : ∃ x : ℝ, ∑ i ∈ s, f i = (x : EReal) := by
  choose g hg using h
  refine ⟨∑ i ∈ s, g i, ?_⟩
  rw [Finset.sum_congr rfl fun i _ => hg i]
  exact (map_sum (⟨⟨Real.toEReal, EReal.coe_zero⟩, EReal.coe_add⟩ : ℝ →+ EReal) g s).symm

theorem band_real (H : Real3 X T S) (n : Fin 128) (s : Fin 256) (e : Fin 1280) (he : e.val < 1152) : ∃ x : ℝ, bandAt X n s e = (x : EReal) := by
  unfold bandAt
  split_ifs
  · exact ⟨0, EReal.coe_zero.symm⟩
  · exact H.qk _ _ he
  · exact H.qk _ _ he

/-- A looked-up bias is a number. -/
theorem table_real (H : Real3 X T S) (i : Cert.ReferenceIdeal.S128x256x16.Idx) : ∃ x : ℝ, Cert.ReferenceIdeal.Read.val_main_v56 (F := Ideal) T i = (x : EReal) := by
  unfold Cert.ReferenceIdeal.Read.val_main_v56 Host.gather
  exact H.bias _

/-- No logit is `+∞`. -/
theorem logit_ne_top (H : Real3 X T S) (n : Fin 128) (h : Fin 16) (r : Fin 128) (s : Fin 256) : logit X T n h r s ≠ ⊤ := by
  unfold logit
  split_ifs
  · obtain ⟨a, ha⟩ := sum_real Finset.univ (fun d : Fin 64 => bandAt X n s ⟨1024 + (h.val / 8 * 64 + d.val), by omega⟩
        * X (ix2 ⟨n.val * 128 + r.val, by omega⟩ ⟨h.val * 64 + d.val, by omega⟩)) fun d => by
      obtain ⟨x, hx⟩ := band_real H n s ⟨1024 + (h.val / 8 * 64 + d.val), by omega⟩ (by dsimp only; omega)
      obtain ⟨y, hy⟩ := H.qk ⟨n.val * 128 + r.val, by omega⟩ ⟨h.val * 64 + d.val, by omega⟩ (by dsimp only; omega)
      exact ⟨x * y, by rw [hx, hy, EReal.coe_mul]⟩
    obtain ⟨b, hb'⟩ := table_real H (ix3 r s h)
    rw [ha, hb', eighth, ← EReal.coe_mul, ← EReal.coe_add]
    exact EReal.coe_ne_top _
  · exact bot_ne_top

variable {Q : FVec Ideal S128x128 .bf16} {B : FVec Ideal S1x1x128x256 .f32} {U W U' W' : FVec Ideal S128x128 .bf16}

/-- The kernel's logits are the reference's. -/
theorem hlg_eq {n r : Fin 128} {h : Fin 16} {c j : Fin 2} (hc : h.val / 8 = c.val)
    (hQ : ∀ d : Fin 64, Q (ix2 r ⟨j.val * 64 + d.val, by omega⟩) = X (ix2 ⟨n.val * 128 + r.val, by omega⟩ ⟨h.val * 64 + d.val, by omega⟩))
    (hB : ∀ s, B (ix4 0 0 r s) = if seen n r s then Cert.ReferenceIdeal.Read.val_main_v56 (F := Ideal) T (ix3 r s h) else ⊥)
    (hk : ∀ s, seen n r s → ∀ e : Fin 128, rows U W s e = bandAt X n s ⟨1024 + e.val, by omega⟩) :
    hlg Q B U W c j r = logit X T n h r := by
  funext s
  unfold hlg logit
  rw [hB]
  split_ifs with hs
  · rw [eighth, sum_mul_real _ _ (by norm_num)]
    refine congrArg₂ (· + ·) (Finset.sum_congr rfl fun d _ => ?_) rfl
    rw [hQ, hk s hs, mul_comm, mul_assoc, mul_assoc]
    refine congrArg₂ (· * ·) (congrArg (bandAt X n s) (Fin.ext ?_)) (mul_comm _ _)
    dsimp only
    omega
  · exact EReal.add_bot _

/-- One head of a store. -/
theorem head_eq (H : Real3 X T S) {n r : Fin 128} {h : Fin 16} {c j : Fin 2} (hc : h.val / 8 = c.val)
    (hQ : ∀ d : Fin 64, Q (ix2 r ⟨j.val * 64 + d.val, by omega⟩) = X (ix2 ⟨n.val * 128 + r.val, by omega⟩ ⟨h.val * 64 + d.val, by omega⟩))
    (hB : ∀ s, B (ix4 0 0 r s) = if seen n r s then Cert.ReferenceIdeal.Read.val_main_v56 (F := Ideal) T (ix3 r s h) else ⊥)
    (hk : ∀ s, seen n r s → ∀ e : Fin 128, rows U W s e = bandAt X n s ⟨1024 + e.val, by omega⟩)
    {z : EReal} (hz : z = S (ix2 0 h)) {v v' : Fin 256 → EReal} (hv : ∀ s, seen n r s → v s = v' s) :
    attAfter (hlg Q B U W c j r) z v = attBefore (logit X T n h r) (S (ix2 0 h)) v' := by
  rw [hlg_eq hc hQ hB hk, hz]
  obtain ⟨x, hx⟩ := H.sink (ix2 0 h)
  rw [hx]
  refine attAfter_eq (logit_ne_top H n h r) fun s => ?_
  by_cases hs : seen n r s
  · exact Or.inr (hv s hs)
  · exact Or.inl (by rw [logit, if_neg hs])

/-- What the blocks of a point hold: block `n`'s queries of a pair of heads `2 i`, `2 i + 1`, the band's keys and values
    (whatever the first block's previous ones are), the biases with the mask, the sinks. -/
structure Held (X : FVec Ideal S16384x1280 .bf16) (T : FVec Ideal S32x16 .f32) (S : FVec Ideal S1x16 .f32) (n : Fin 128) (i : Fin 8)
    (Q : FVec Ideal S128x128 .bf16) (U W U' W' : FVec Ideal S128x128 .bf16) (B0 B1 : FVec Ideal S1x1x128x256 .f32) (s0 s1 : EReal) : Prop where
  q : ∀ r e : Fin 128, Q (ix2 r e) = X (ix2 ⟨n.val * 128 + r.val, by omega⟩ ⟨i.val * 128 + e.val, by omega⟩)
  kprev : 0 < n.val → ∀ s e : Fin 128, U (ix2 s e) = X (ix2 ⟨(n.val - 1) * 128 + s.val, by omega⟩ ⟨1024 + e.val, by omega⟩)
  kown : ∀ s e : Fin 128, W (ix2 s e) = X (ix2 ⟨n.val * 128 + s.val, by omega⟩ ⟨1024 + e.val, by omega⟩)
  vprev : 0 < n.val → ∀ s e : Fin 128, U' (ix2 s e) = X (ix2 ⟨(n.val - 1) * 128 + s.val, by omega⟩ ⟨1152 + e.val, by omega⟩)
  vown : ∀ s e : Fin 128, W' (ix2 s e) = X (ix2 ⟨n.val * 128 + s.val, by omega⟩ ⟨1152 + e.val, by omega⟩)
  b0 : ∀ r s, B0 (ix4 0 0 r s) = if seen n r s then Cert.ReferenceIdeal.Read.val_main_v56 (F := Ideal) T (ix3 r s ⟨2 * i.val, by omega⟩) else ⊥
  b1 : ∀ r s, B1 (ix4 0 0 r s) = if seen n r s then Cert.ReferenceIdeal.Read.val_main_v56 (F := Ideal) T (ix3 r s ⟨2 * i.val + 1, by omega⟩) else ⊥
  z0 : s0 = S (ix2 0 ⟨2 * i.val, by omega⟩)
  z1 : s1 = S (ix2 0 ⟨2 * i.val + 1, by omega⟩)

/-- The loaded rows are the band's where a row may look. -/
theorem rows_band {n r : Fin 128} {o : ℕ} (ho : o ≤ 1152)
    (hp : 0 < n.val → ∀ s e : Fin 128, U (ix2 s e) = X (ix2 ⟨(n.val - 1) * 128 + s.val, by omega⟩ ⟨o + e.val, by omega⟩))
    (hw : ∀ s e : Fin 128, W (ix2 s e) = X (ix2 ⟨n.val * 128 + s.val, by omega⟩ ⟨o + e.val, by omega⟩))
    (s : Fin 256) (hs : seen n r s) (e : Fin 128) : rows U W s e = bandAt X n s ⟨o + e.val, by omega⟩ := by
  unfold rows bandAt
  obtain ⟨-, -, h3⟩ := hs
  by_cases h : s.val < 128
  · have hn : 0 < n.val := by omega
    rw [dif_pos h, if_pos h, dif_neg (by omega), hp hn]
    exact congrArg X (congrArg (fun r => ix2 r _) (Fin.ext (by dsimp only; omega)))
  · rw [dif_neg h, if_neg h, hw]
    exact congrArg X (congrArg (fun r => ix2 r _) (Fin.ext (by dsimp only; omega)))

variable {B0 B1 : FVec Ideal S1x1x128x256 .f32} {s0 s1 : Elt Ideal .f32}

/-- The reference's result at a head `h`. -/
theorem ref_head (X : FVec Ideal S16384x1280 .bf16) (T : FVec Ideal S32x16 .f32) (S : FVec Ideal S1x16 .f32)
    (y : S16384x1024.Idx) (n : Fin 128) (h : Fin 16) (r : Fin 128) (d : Fin 64)
    (h0 : (y 0).val = n.val * 128 + r.val) (h1 : (y 1).val = h.val * 64 + d.val) :
    Cert.ReferenceIdeal.Read.val_main_v102 (F := Ideal) X T S y
      = attBefore (logit X T n h r) (S (ix2 0 h)) fun s => bandAt X n s ⟨1152 + (h.val / 8 * 64 + d.val), by omega⟩ := by
  have e : ∀ p, (⟨h.val / 8 * 8 + h.val % 8, p⟩ : Fin 16) = h := fun p => Fin.ext (by dsimp only; omega)
  have R := ref_out X T S y n ⟨h.val / 8, by omega⟩ ⟨h.val % 8, by omega⟩ r d h0 (by dsimp only; omega)
  simp only [e] at R
  exact R

/-- An index of a block of columns lies in its left half or in its right half. -/
theorem halves (x : S128x128.Idx) : (∃ (r : Fin 128) (d : Fin 64), x = ix2 r ⟨d.val, by omega⟩) ∨ ∃ (r : Fin 128) (d : Fin 64), x = ix2 r ⟨64 + d.val, by omega⟩ := by
  have e : x = ix2 (x 0) (x 1) := funext fun a => by match a with | ⟨0, _⟩ => rfl | ⟨1, _⟩ => rfl
  have hx : (x 1).val < 128 := (x 1).isLt
  by_cases h : (x 1).val < 64
  · exact Or.inl ⟨x 0, ⟨(x 1).val, h⟩, e⟩
  · exact Or.inr ⟨x 0, ⟨(x 1).val - 64, by omega⟩, e.trans (congrArg (ix2 (x 0)) (Fin.ext (show (x 1).val = 64 + ((x 1).val - 64) by omega)))⟩

/-- A STORE of the first kept head is the reference's block. -/
theorem store0 (H : Real3 X T S) {n : Fin 128} {i : Fin 8} (hi : i.val < 4) (D : Held X T S n i Q U W U' W' B0 B1 s0 s1)
    (x : S128x128.Idx) (y : S16384x1024.Idx) (h0 : (y 0).val = n.val * 128 + (x 0).val) (h1 : (y 1).val = i.val * 128 + (x 1).val) :
    stored (k0_pay8 U W) (k0_pay9 U W) Q s0 s1 B0 B1 (k0_pay12 U' W') x = Cert.ReferenceIdeal.Read.val_main_v102 (F := Ideal) X T S y := by
  rcases halves x with ⟨r, d, rfl⟩ | ⟨r, d, rfl⟩
  · replace h0 : (y 0).val = n.val * 128 + r.val := h0
    replace h1 : (y 1).val = i.val * 128 + d.val := h1
    rw [ref_head X T S y n ⟨2 * i.val, by omega⟩ r d h0 (by dsimp only; omega), (stored0 Q s0 s1 B0 B1 U W U' W' r d).1]
    refine head_eq H (by simp; omega) (fun d => ?_) (D.b0 r) (fun s hs e => rows_band (by omega) D.kprev D.kown s hs e) D.z0 fun s hs => ?_
    · rw [D.q]; exact congrArg X (congrArg (ix2 _) (Fin.ext (by simp; omega)))
    · rw [rows_band (by omega) D.vprev D.vown s hs]; exact congrArg (bandAt X n s) (Fin.ext (by simp; omega))
  · replace h0 : (y 0).val = n.val * 128 + r.val := h0
    replace h1 : (y 1).val = i.val * 128 + (64 + d.val) := h1
    rw [ref_head X T S y n ⟨2 * i.val + 1, by omega⟩ r d h0 (by dsimp only; omega), (stored0 Q s0 s1 B0 B1 U W U' W' r d).2]
    refine head_eq H (by simp; omega) (fun d => ?_) (D.b1 r) (fun s hs e => rows_band (by omega) D.kprev D.kown s hs e) D.z1 fun s hs => ?_
    · rw [D.q]; exact congrArg X (congrArg (ix2 _) (Fin.ext (by simp; omega)))
    · rw [rows_band (by omega) D.vprev D.vown s hs]; exact congrArg (bandAt X n s) (Fin.ext (by simp; omega))

/-- A STORE of the second kept head is the reference's block. -/
theorem store1 (H : Real3 X T S) {n : Fin 128} {i : Fin 8} (hi : 4 ≤ i.val) (D : Held X T S n i Q U W U' W' B0 B1 s0 s1)
    (x : S128x128.Idx) (y : S16384x1024.Idx) (h0 : (y 0).val = n.val * 128 + (x 0).val) (h1 : (y 1).val = i.val * 128 + (x 1).val) :
    stored (k0_pay10 U W) (k0_pay11 U W) Q s0 s1 B0 B1 (k0_pay14 k0_pay2 (k0_pay5 U' W') (k0_pay7 U' W') k0_pay13) x = Cert.ReferenceIdeal.Read.val_main_v102 (F := Ideal) X T S y := by
  rcases halves x with ⟨r, d, rfl⟩ | ⟨r, d, rfl⟩
  · replace h0 : (y 0).val = n.val * 128 + r.val := h0
    replace h1 : (y 1).val = i.val * 128 + d.val := h1
    rw [ref_head X T S y n ⟨2 * i.val, by omega⟩ r d h0 (by dsimp only; omega), (stored1 Q s0 s1 B0 B1 U W U' W' r d).1]
    refine head_eq H (by simp; omega) (fun d => ?_) (D.b0 r) (fun s hs e => rows_band (by omega) D.kprev D.kown s hs e) D.z0 fun s hs => ?_
    · rw [D.q]; exact congrArg X (congrArg (ix2 _) (Fin.ext (by simp; omega)))
    · rw [rows_band (by omega) D.vprev D.vown s hs]; exact congrArg (bandAt X n s) (Fin.ext (by simp; omega))
  · replace h0 : (y 0).val = n.val * 128 + r.val := h0
    replace h1 : (y 1).val = i.val * 128 + (64 + d.val) := h1
    rw [ref_head X T S y n ⟨2 * i.val + 1, by omega⟩ r d h0 (by dsimp only; omega), (stored1 Q s0 s1 B0 B1 U W U' W' r d).2]
    refine head_eq H (by simp; omega) (fun d => ?_) (D.b1 r) (fun s hs e => rows_band (by omega) D.kprev D.kown s hs e) D.z1 fun s hs => ?_
    · rw [D.q]; exact congrArg X (congrArg (ix2 _) (Fin.ext (by simp; omega)))
    · rw [rows_band (by omega) D.vprev D.vown s hs]; exact congrArg (bandAt X n s) (Fin.ext (by simp; omega))

end Cert.Attn

end
-- ==== Proof.Attn.Held.lean ====
/-
  THE ATTENTION'S BLOCKS: what a point's blocks hold, in terms of the arguments.
-/
module

public import proofs.«01_k».proof.Proof.Attn.Reference
public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.SL.Sem

variable (m : (ℓ : Loc nD τ sig) → Buf (Elt Ideal) ℓ)

theorem sinks_at (c : Dev nD) (h : Fin 16) : V m c main_v55 (ix1 h) = m ((c : Thread nD τ).loc main_arg2) (ix2 0 h) := by
  unfold V
  simp only [List.flatten_cons, List.flatten_nil, List.append_nil, List.cons_append, List.nil_append, hostOps0, hostOps0_1, hostOps0_2, hostOps0_3, hostOps0_4, hostOps0_5, hostOps0_6]
  after_results_simp
  pointwise

/-- The host's first operations leave the distances and the two candidates for a looked-up row. -/
theorem first_ops (F : Valuation τ sig (Elt Ideal)) :
    StableHlo.after hostOps0 F (Proc.devRef .tc main_v8) = Cert.ReferenceIdeal.Read.val_main_v29 (F := Ideal)
    ∧ StableHlo.after hostOps0 F (Proc.devRef .tc main_v27) = Cert.ReferenceIdeal.Read.val_main_v48 (F := Ideal)
    ∧ StableHlo.after hostOps0 F (Proc.devRef .tc main_v10) = Cert.ReferenceIdeal.Read.val_main_v31 (F := Ideal)
    ∧ StableHlo.after hostOps0 F (Proc.devRef .tc main_v25) = Cert.ReferenceIdeal.Read.val_main_v46 (F := Ideal)
    ∧ StableHlo.after hostOps0 F (Proc.devRef .tc main_arg1) = F (Proc.devRef .tc main_arg1) := by
  simp only [hostOps0]
  refine ⟨?_, ?_, ?_, ?_, ?_⟩ <;> after_results_simp <;> rfl

/-- The choice between the candidates. -/
theorem pick_op (F : Valuation τ sig (Elt Ideal)) :
    StableHlo.after hostOps0_1 F (Proc.devRef .tc main_v8) = F (Proc.devRef .tc main_v8)
    ∧ StableHlo.after hostOps0_1 F (Proc.devRef .tc main_v28)
      = select (F (Proc.devRef .tc main_v27)) (F (Proc.devRef .tc main_v10) : IVec S128x256 32) (F (Proc.devRef .tc main_v25))
    ∧ StableHlo.after hostOps0_1 F (Proc.devRef .tc main_arg1) = F (Proc.devRef .tc main_arg1) := by
  simp only [hostOps0_1]
  refine ⟨?_, ?_, ?_⟩ <;> after_results_simp <;> rfl

/-- The stack of the biases under two masks. -/
def stack (rel : IVec S128x256 32) (tab : FVec Ideal S128x256x16 .f32) : FVec Ideal S2x16x128x256 .f32 := concatenate S2x16x128x256 0
    [⟨S1x16x128x256, broadcastInDim S1x16x128x256 ![1, 2, 3] bcast_S16x128x256_S1x16x128x256_1_2_3
        (select (broadcastInDim S16x128x256 ![0, 1, 2] bcast_S1x128x256_S16x128x256_0_1_2 (broadcastInDim S1x128x256 ![1, 2] bcast_S128x256_S1x128x256_1_2
            (andi (andi (cmpi .sge rel (broadcastInDim S128x256 ![] bcast_S_S128x256 (constantI S_ 32 0#32))) (cmpi .slt rel (broadcastInDim S128x256 ![] bcast_S_S128x256 (constantI S_ 32 128#32))))
              (broadcastInDim S128x256 ![0, 1] bcast_S1x256_S128x256_0_1 (cmpi .sge (broadcastInDim S1x256 ![1] bcast_S256_S1x256_1 (iotaInDim S256 32 0)) (broadcastInDim S1x256 ![] bcast_S_S1x256 (constantI S_ 32 128#32)))))))
          (transpose S16x128x256 [2, 0, 1] tab transposes_S128x256x16_S16x128x256_2_0_1)
          (broadcastInDim S16x128x256 ![] bcast_S_S16x128x256 (constant (F := Ideal) S_ .f32 0xFF800000#32)))⟩,
      ⟨S1x16x128x256, broadcastInDim S1x16x128x256 ![1, 2, 3] bcast_S16x128x256_S1x16x128x256_1_2_3
        (select (broadcastInDim S16x128x256 ![0, 1, 2] bcast_S1x128x256_S16x128x256_0_1_2 (broadcastInDim S1x128x256 ![1, 2] bcast_S128x256_S1x128x256_1_2
            (andi (cmpi .sge rel (broadcastInDim S128x256 ![] bcast_S_S128x256 (constantI S_ 32 0#32))) (cmpi .slt rel (broadcastInDim S128x256 ![] bcast_S_S128x256 (constantI S_ 32 128#32))))))
          (transpose S16x128x256 [2, 0, 1] tab transposes_S128x256x16_S16x128x256_2_0_1)
          (broadcastInDim S16x128x256 ![] bcast_S_S16x128x256 (constant (F := Ideal) S_ .f32 0xFF800000#32)))⟩]
    concatenates_S1x16x128x256_S1x16x128x256_S2x16x128x256_d0

/-- The table at the looked-up rows, negative ones counted from the end. -/
def table (idx : IVec S128x256 32) (T : FVec Ideal S32x16 .f32) : FVec Ideal S128x256x16 .f32 :=
  Host.gather gather_S32x16_S128x256x1_S128x256x16_2_0_n_n_0_2_116 T (broadcastInDim S128x256x1 ![0, 1] bcast_S128x256_S128x256x1_0_1
    (select (cmpi .slt idx (broadcastInDim S128x256 ![] bcast_S_S128x256 (constantI S_ 32 0#32))) (addi idx (broadcastInDim S128x256 ![] bcast_S_S128x256 (constantI S_ 32 32#32))) idx))

/-- The host's last operations leave the stack. -/
theorem last_ops (F : Valuation τ sig (Elt Ideal)) :
    StableHlo.after (hostOps0_2 ++ (hostOps0_3 ++ (hostOps0_4 ++ (hostOps0_5 ++ hostOps0_6)))) F (Proc.devRef .tc main_v54)
      = stack (F (Proc.devRef .tc main_v8)) (table (F (Proc.devRef .tc main_v28)) (F (Proc.devRef .tc main_arg1))) := by
  simp only [List.cons_append, List.nil_append, hostOps0_2, hostOps0_3, hostOps0_4, hostOps0_5, hostOps0_6]
  after_results_simp
  rfl

/-- The biases with their mask, as the launch gets them. -/
theorem V_v54 (c : Dev nD) : V m c main_v54 = stack (Cert.ReferenceIdeal.Read.val_main_v29 (F := Ideal))
    (Cert.ReferenceIdeal.Read.val_main_v56 (F := Ideal) (m ((c : Thread nD τ).loc main_arg1))) := by
  have h := first_ops (fun b => m (c, b))
  unfold V
  simp only [List.flatten_cons, List.flatten_nil, List.append_nil]
  have p := pick_op (StableHlo.after hostOps0 fun b => m (c, b))
  rw [StableHlo.after_append, StableHlo.after_append, last_ops, p.1, p.2.1, p.2.2, h.1, h.2.1, h.2.2.1, h.2.2.2.1, h.2.2.2.2]
  rfl

/-- The biases with their mask: of the first block, of the others. -/
theorem mask_V (c : Dev nD) (e : Fin 2) (h : Fin 16) (r : Fin 128) (s : Fin 256) (n : Fin 128) (hn : e.val = min n.val 1) :
    V m c main_v54 (ix4 e h r s) = if seen n r s then Cert.ReferenceIdeal.Read.val_main_v56 (F := Ideal) (m ((c : Thread nD τ).loc main_arg1)) (ix3 r s h) else ⊥ := by
  rw [V_v54]
  generalize Cert.ReferenceIdeal.Read.val_main_v56 (F := Ideal) (m ((c : Thread nD τ).loc main_arg1)) = T56
  unfold stack
  pointwise [Cert.ReferenceIdeal.Read.val_main_v29, Cert.ReferenceIdeal.Read.val_main_v28, Cert.ReferenceIdeal.Read.val_main_v27,
    Cert.ReferenceIdeal.Read.val_main_v26, Cert.ReferenceIdeal.Read.val_main_v25, Cert.ReferenceIdeal.Read.val_main_v24,
    Cert.ReferenceIdeal.Read.val_main_v23, Cert.ReferenceIdeal.Read.val_main_c, Cert.ReferenceIdeal.Read.val_main_v22, Cert.ReferenceIdeal.Read.val_main_v21]
  rw [window_bit, own_bit, negInf]
  have key : ∀ (p q : Bool) (x y : EReal), Scalar.select (IntOp.andi (BitVec.ofBool p) (BitVec.ofBool q)) x y = if p ∧ q then x else y := by
    intro p q x y
    cases p <;> cases q <;> rfl
  by_cases he : e.val < 1
  · refine (dif_pos he).trans ((key _ _ _ _).trans (if_congr ?_ rfl rfl))
    unfold seen
    simp only [decide_eq_true_eq]
    omega
  · refine (dif_neg he).trans ((select_bit _ _).trans (if_congr ?_ rfl rfl))
    unfold seen
    simp only [decide_eq_true_eq]
    omega

theorem idx : ∀ t : Fin cfg0.N, win0_0.index t = ![0] ∧ win0_1.index t = ![t.val, 0] ∧ win0_2.index t = ![t.val, 4]
    ∧ win0_3.index t = ![t.val - 1, 4] ∧ win0_4.index t = ![min t.val 1, 0, 0, 0] ∧ win0_5.index t = ![t.val, 0] :=
  (by decide +kernel : ∀ t : Fin grid0.N, _)

end Cert.Attn

end
-- ==== Proof.Attn.Final.lean ====
/-
  THE ATTENTION KERNEL'S RESULT: every block of it is the reference's.
-/
module

public import proofs.«01_k».proof.Proof.Attn.Core
public import proofs.«01_k».proof.Proof.Attn.Held

@[expose] public section

set_option maxRecDepth 16384

noncomputable section

namespace Cert.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem V_arg0 (c : Dev nD) : V m c main_arg0 = m ((c : Thread nD τ).loc main_arg0) := by
  unfold V
  simp only [List.flatten_cons, List.flatten_nil, List.append_nil, List.cons_append, List.nil_append, hostOps0, hostOps0_1, hostOps0_2, hostOps0_3, hostOps0_4, hostOps0_5, hostOps0_6]
  after_results_simp

/-- The clipped window is never cut, so its staged block is the block read. -/
theorem staged (c : Dev nD) (t : Fin cfg0.N) (r : Fin 128) (e : Fin 1024) (h : t.val * 128 + r.val < 16384) :
    X0_1 m c t (ix2 r e) = m ((c : Thread nD τ).loc main_arg0) (ix2 ⟨t.val * 128 + r.val, h⟩ ⟨e.val, by omega⟩) := by
  unfold X0_1 Pipeline.Window.fill
  rw [dif_pos (moved0_1 t _)]
  blk_simp [iblk, idx t]
  rw [V_arg0]
  blk_ext [idx t, Rect.idx_unit_val]

theorem q_at (c : Dev nD) (t : Fin cfg0.N) (o : ℕ) (ho : o ≤ 896) (p) (r e : Fin 128) (h : t.val * 128 + r.val < 16384) :
    View.ld (X0_1 m c t) (Rect.unit (s := S128x1024) ![0, o] ![128, 128] p) (ix2 r e) = m ((c : Thread nD τ).loc main_arg0) (ix2 ⟨t.val * 128 + r.val, h⟩ ⟨o + e.val, by omega⟩) := by
  rw [← staged m c t r ⟨o + e.val, by omega⟩ h]
  unfold View.ld
  blk_ext [idx t, Rect.idx_unit_val]

theorem own_at (c : Dev nD) (t : Fin cfg0.N) (o : ℕ) (ho : o ≤ 128) (p) (r e : Fin 128) (h : t.val * 128 + r.val < 16384) :
    View.ld (iblk m c 2 t) (Rect.unit (s := S128x256) ![0, o] ![128, 128] p) (ix2 r e) = m ((c : Thread nD τ).loc main_arg0) (ix2 ⟨t.val * 128 + r.val, h⟩ ⟨1024 + (o + e.val), by omega⟩) := by
  unfold View.ld
  blk_simp [iblk, idx t]
  rw [V_arg0]
  blk_ext [idx t, Rect.idx_unit_val]

theorem prev_at (c : Dev nD) (t : Fin cfg0.N) (o : ℕ) (ho : o ≤ 128) (p) (r e : Fin 128) (h : (t.val - 1) * 128 + r.val < 16384) :
    View.ld (iblk m c 3 t) (Rect.unit (s := S128x256) ![0, o] ![128, 128] p) (ix2 r e) = m ((c : Thread nD τ).loc main_arg0) (ix2 ⟨(t.val - 1) * 128 + r.val, h⟩ ⟨1024 + (o + e.val), by omega⟩) := by
  unfold View.ld
  blk_simp [iblk, idx t]
  rw [V_arg0]
  blk_ext [idx t, Rect.idx_unit_val]

theorem sink_at (c : Dev nD) (t : Fin cfg0.N) (h : ℕ) (hh : h < 16) (p) (i) :
    View.ld (iblk m c 0 t) (Rect.unit (s := S16) ![h] ![1] p) i = m ((c : Thread nD τ).loc main_arg2) (ix2 0 ⟨h, hh⟩) := by
  refine Eq.trans ?_ (sinks_at m c ⟨h, hh⟩)
  unfold View.ld
  have hi : (i 0).val < 1 := (i 0).isLt
  blk_simp [iblk, idx t]
  blk_ext [idx t, Rect.idx_unit_val]

theorem mask_at (c : Dev nD) (t : Fin cfg0.N) (h : ℕ) (hh : h < 16) (p) (r : Fin 128) (s : Fin 256) (n : Fin 128) (hn : n.val = t.val) :
    View.ld (iblk m c 4 t) (Rect.unit (s := S1x16x128x256) ![0, h, 0, 0] ![1, 1, 128, 256] p) (ix4 0 0 r s)
      = if seen n r s then Cert.ReferenceIdeal.Read.val_main_v56 (F := Ideal) (m ((c : Thread nD τ).loc main_arg1)) (ix3 r s ⟨h, hh⟩) else ⊥ := by
  rw [← mask_V m c ⟨min t.val 1, by omega⟩ ⟨h, hh⟩ r s n (by rw [hn])]
  unfold View.ld
  blk_simp [iblk, idx t]
  blk_ext [idx t, Rect.idx_unit_val]

/-- What a point's loads hold for the pair of heads `2 i`, `2 i + 1`. -/
theorem held (c : Dev nD) (t : Fin cfg0.N) (n : Fin 128) (hn : n.val = t.val) (i : Fin 8) (o h0 h1 : ℕ) (ho : o = i.val * 128) (e0 : h0 = 2 * i.val) (e1 : h1 = 2 * i.val + 1)
    (p1 p2 p3 p4 p5 p6 p7 p8 p9 j0 j1) :
    Held (m ((c : Thread nD τ).loc main_arg0)) (m ((c : Thread nD τ).loc main_arg1)) (m ((c : Thread nD τ).loc main_arg2)) n i
      (View.ld (X0_1 m c t) (Rect.unit (s := S128x1024) ![0, o] ![128, 128] p1))
      (View.ld (iblk m c 3 t) (Rect.unit (s := S128x256) ![0, 0] ![128, 128] p2)) (View.ld (iblk m c 2 t) (Rect.unit (s := S128x256) ![0, 0] ![128, 128] p3))
      (View.ld (iblk m c 3 t) (Rect.unit (s := S128x256) ![0, 128] ![128, 128] p4)) (View.ld (iblk m c 2 t) (Rect.unit (s := S128x256) ![0, 128] ![128, 128] p5))
      (View.ld (iblk m c 4 t) (Rect.unit (s := S1x16x128x256) ![0, h0, 0, 0] ![1, 1, 128, 256] p6))
      (View.ld (iblk m c 4 t) (Rect.unit (s := S1x16x128x256) ![0, h1, 0, 0] ![1, 1, 128, 256] p7))
      (View.ld (iblk m c 0 t) (Rect.unit (s := S16) ![h0] ![1] p8) j0) (View.ld (iblk m c 0 t) (Rect.unit (s := S16) ![h1] ![1] p9) j1) := by
  obtain rfl : n = ⟨t.val, t.isLt⟩ := Fin.ext hn
  subst ho e0 e1
  refine ⟨fun r e => q_at m c t _ (by omega) _ r e _, fun _ s e => ?_, fun s e => ?_, fun _ s e => ?_, fun s e => ?_,
    fun r s => mask_at m c t _ (by omega) _ r s _ rfl, fun r s => mask_at m c t _ (by omega) _ r s _ rfl, sink_at m c t _ (by omega) _ _, sink_at m c t _ (by omega) _ _⟩
  · rw [prev_at m c t 0 (by omega) _ s e (by omega)]; exact congrArg _ (congrArg (ix2 _) (Fin.ext (by dsimp only; omega)))
  · rw [own_at m c t 0 (by omega) _ s e (by omega)]; exact congrArg _ (congrArg (ix2 _) (Fin.ext (by dsimp only; omega)))
  · rw [prev_at m c t 128 (by omega) _ s e (by omega)]; exact congrArg _ (congrArg (ix2 _) (Fin.ext (by dsimp only; omega)))
  · rw [own_at m c t 128 (by omega) _ s e (by omega)]; exact congrArg _ (congrArg (ix2 _) (Fin.ext (by dsimp only; omega)))

/-- The kernel's result is the reference's. -/
theorem final (c : Dev nD) (H : Real3 (m ((c : Thread nD τ).loc main_arg0)) (m ((c : Thread nD τ).loc main_arg1)) (m ((c : Thread nD τ).loc main_arg2))) :
    (dats m 0 c).arrAt 5 (cfgs 0).N
      = Cert.ReferenceIdeal.Read.val_main_v102 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  have hy : ((((View.whole main_v56).slice (win0_5.rect t)).emb y) 0).val = t.val * 128 + (y 0).val
      ∧ ((((View.whole main_v56).slice (win0_5.rect t)).emb y) 1).val = (y 1).val := by
    constructor <;> blk_simp [idx t] <;> omega
  blk_simp; rw [after0_5]; unfold outsAt0; dsimp only; frame_out
  have held := fun i o h0 h1 => held m c t ⟨t.val, t.isLt⟩ rfl i o h0 h1
  generalize ((View.whole main_v56).slice (win0_5.rect t)).emb y = z at hy ⊢
  canon_tiles x h
  case piece7 => exact store0 H (i := 0) (by decide) (held 0 0 0 1 rfl rfl rfl _ _ _ _ _ _ _ _ _ _ _) x z (by rw [hy.1, h0]) (by rw [hy.2, h1]; simp)
  case piece6 => exact store0 H (i := 1) (by decide) (held 1 128 2 3 rfl rfl rfl _ _ _ _ _ _ _ _ _ _ _) x z (by rw [hy.1, h0]) (by rw [hy.2, h1]; simp)
  case piece5 => exact store0 H (i := 2) (by decide) (held 2 256 4 5 rfl rfl rfl _ _ _ _ _ _ _ _ _ _ _) x z (by rw [hy.1, h0]) (by rw [hy.2, h1]; simp)
  case piece4 => exact store0 H (i := 3) (by decide) (held 3 384 6 7 rfl rfl rfl _ _ _ _ _ _ _ _ _ _ _) x z (by rw [hy.1, h0]) (by rw [hy.2, h1]; simp)
  case piece3 => exact store1 H (i := 4) (by decide) (held 4 512 8 9 rfl rfl rfl _ _ _ _ _ _ _ _ _ _ _) x z (by rw [hy.1, h0]) (by rw [hy.2, h1]; simp)
  case piece2 => exact store1 H (i := 5) (by decide) (held 5 640 10 11 rfl rfl rfl _ _ _ _ _ _ _ _ _ _ _) x z (by rw [hy.1, h0]) (by rw [hy.2, h1]; simp)
  case piece1 => exact store1 H (i := 6) (by decide) (held 6 768 12 13 rfl rfl rfl _ _ _ _ _ _ _ _ _ _ _) x z (by rw [hy.1, h0]) (by rw [hy.2, h1]; simp)
  case piece0 => exact store1 H (i := 7) (by decide) (held 7 896 14 15 rfl rfl rfl _ _ _ _ _ _ _ _ _ _ _) x z (by rw [hy.1, h0]) (by rw [hy.2, h1]; simp)

end Cert.Attn

end
-- ==== Proof.Attn.Claim.lean ====
/-
  THE CLAIMS about the attention programs, from their runs.
-/
module

public import proofs.«01_k».proof.Defs
public import proofs.«01_k».proof.Proof.Gen.KernelIdeal.Frame
public import proofs.«01_k».proof.Proof.Gen.Kernel.Frame
public import proofs.«01_k».proof.Proof.Gen.ReferenceIdeal.Run
public import proofs.«01_k».proof.Proof.Attn.Final
public import proofs.«01_k».proof.Proof.Gen.ReferenceIdeal.Read
public import proofs.«01_k».proof.Proof.Gen.Pre_finite
public import Idealize.ShloMosaic.Lib.Claim

@[expose] public section

set_option maxRecDepth 16384

noncomputable section

namespace Cert.Attn

open Idealize.ShloMosaic Idealize.ShloMosaic.TcCoe Idealize.SL.Sem

theorem frame : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_ideal_pre : Cert.quiescent_KernelIdeal_pre_finite := fun m ρ _ => Cert.KernelIdeal.Gen.frame m ρ

theorem frame_reference_pre : Cert.quiescent_ReferenceIdeal_pre_finite := fun m ρ _ => frame_reference m ρ trivial

/-- A value whose magnitude compares below infinity is a real number. -/
theorem real_of_lt (x : EReal) (h : Ideal.cmp .olt (max x (-x)) (Ideal.ofBits .f32 0x7F800000#32) = 1#1) : ∃ r : ℝ, x = r := by
  have h' : max x (-x) < ⊤ := by
    have : Ideal.ofBits .f32 0x7F800000#32 = (⊤ : EReal) := by simp [Ideal.ofBits, Ideal.ieee, -EReal.coe_mul]
    rw [this] at h
    by_contra hn
    simp [Ideal.cmp, hn] at h
  induction x using EReal.rec with
  | bot => simp at h'
  | top => simp at h'
  | coe r => exact ⟨r, rfl⟩

theorem real_of_finite (X : FVec Ideal Cert.KernelIdeal.S16384x1280 .bf16) (T : FVec Ideal Cert.KernelIdeal.S32x16 .f32) (S : FVec Ideal Cert.KernelIdeal.S1x16 .f32)
    (h0 : (Cert.Pre_finite.fn (F := Ideal) X T S).1 = fun _ => 1#1) (h1 : (Cert.Pre_finite.fn (F := Ideal) X T S).2.1 = fun _ => 1#1)
    (h2 : (Cert.Pre_finite.fn (F := Ideal) X T S).2.2 = fun _ => 1#1) : Real3 X T S where
  qk i e he := by
    have h : Ideal.cmp .olt (max (X _) (-(X _))) (Ideal.ofBits .f32 0x7F800000#32) = 1#1 := congrFun h0 (ix2 i ⟨e.val, he⟩)
    obtain ⟨r, hr⟩ := real_of_lt _ h
    refine ⟨r, Eq.trans (congrArg X ?_) hr⟩
    funext a
    match a with
    | 0 => exact Fin.ext (by simp [ix2])
    | 1 => exact Fin.ext (by simp [ix2])
  bias i := real_of_lt _ (congrFun h1 i)
  sink i := real_of_lt _ (congrFun h2 i)

theorem after_args (F : Valuation Cert.KernelIdeal.τ Cert.KernelIdeal.sig (Elt Ideal)) :
    StableHlo.after [Cert.KernelIdeal.Gen.hostOps0, Cert.KernelIdeal.Gen.hostOps0_1, Cert.KernelIdeal.Gen.hostOps0_2, Cert.KernelIdeal.Gen.hostOps0_3,
        Cert.KernelIdeal.Gen.hostOps0_4, Cert.KernelIdeal.Gen.hostOps0_5, Cert.KernelIdeal.Gen.hostOps0_6].flatten F (Proc.devRef .tc Cert.KernelIdeal.main_arg1) = F (Proc.devRef .tc Cert.KernelIdeal.main_arg1)
    ∧ StableHlo.after [Cert.KernelIdeal.Gen.hostOps0, Cert.KernelIdeal.Gen.hostOps0_1, Cert.KernelIdeal.Gen.hostOps0_2, Cert.KernelIdeal.Gen.hostOps0_3,
        Cert.KernelIdeal.Gen.hostOps0_4, Cert.KernelIdeal.Gen.hostOps0_5, Cert.KernelIdeal.Gen.hostOps0_6].flatten F (Proc.devRef .tc Cert.KernelIdeal.main_arg2) = F (Proc.devRef .tc Cert.KernelIdeal.main_arg2) := by
  simp only [List.flatten_cons, List.flatten_nil, List.append_nil, List.cons_append, List.nil_append, Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6]
  constructor <;> after_results_simp

theorem algebraic : Cert.algebraic_KernelIdeal_ReferenceIdeal_pre_finite := by
  pair_intro
  · run_from Cert.KernelIdeal.Gen.run_main m g
    · exact (after_args _).1
    · exact (after_args _).2
  · have hf := fun c => final m c (real_of_finite _ _ _ (hpre c).1 (hpre c).2.1 (hpre c).2.2)
    refine (θ_run Cert.ReferenceIdeal.defs _ _).mono (fun r h c => ⟨(h c).1.trans ?_, (h c).2⟩) (Cert.ReferenceIdeal.Value.run m' g')
    rw [Cert.ReferenceIdeal.Read.val_main_v102_eq, (hagree c).1, (hagree c).2.1, (hagree c).2.2]
    rw [← hf c]

end Cert.Attn

end
-- ==== Proof.Ffn.Conv.lean ====
/-
  THE FEED-FORWARD CALL, its convolution and activation: what a block of columns of the kernel computes is the reference's columns.
-/
module

public import proofs.«01_k».proof.Proof.Gen.FfnKernelIdeal.Frame
public import proofs.«01_k».proof.Proof.Gen.FfnReferenceIdeal.Read
public import Idealize.ShloMosaic.Lib.Pipeline.ValueKit

@[expose] public section

set_option maxRecDepth 16384

noncomputable section

namespace Cert.Ffn

open Cert.FfnKernelIdeal Cert.FfnKernelIdeal.Gen
open Idealize.ShloMosaic Idealize.ShloMosaic.TcCoe Idealize.SL.Sem

/-- A block's rows moved down by `k`, with the last rows of the block before on top. -/
def shift (k : BitVec 32) (U : FVec Ideal S512x256 .f32) (P : FVec Ideal S8x256 .f32) : FVec Ideal S512x256 .f32 :=
  concatenate S512x256 0 [⟨S8x256, select (cmpi .slt (iota .tc S8x256 32 [0] iota_S8x256_d0_w32) (broadcast S8x256 k)) (dynamicRotate 0 k none P rotates_S8x256_d0)
      (extractStridedSlice S8x256 ![0, 0] (dynamicRotate 0 k none U rotates_S512x256_d0) slices_S512x256_o0_0_S8x256)⟩,
    ⟨S504x256, extractStridedSlice S504x256 ![8, 0] (dynamicRotate 0 k none U rotates_S512x256_d0) slices_S512x256_o8_0_S504x256⟩] concatenates_S8x256_S504x256_S512x256_d0

/-- The three taps over a block of columns. -/
def conv (U : FVec Ideal S512x256 .f32) (P : FVec Ideal S8x256 .f32) (b w2 w1 w0 : FVec Ideal S1x256 .f32) : FVec Ideal S512x256 .f32 :=
  addf (addf (addf (broadcastTo S512x256 (shapeCast S1x256 b shapeCasts_S1x256_S1x256) broadcasts_S1x256_S512x256)
      (mulf (broadcastTo S512x256 (shapeCast S1x256 w2 shapeCasts_S1x256_S1x256) broadcasts_S1x256_S512x256) U))
      (mulf (broadcastTo S512x256 (shapeCast S1x256 w1 shapeCasts_S1x256_S1x256) broadcasts_S1x256_S512x256) (shift 1#32 U P)))
    (mulf (broadcastTo S512x256 (shapeCast S1x256 w0 shapeCasts_S1x256_S1x256) broadcasts_S1x256_S512x256) (shift 2#32 U P))

/-- The gated activation. -/
def act (G V : FVec Ideal S512x256 .f32) : FVec Ideal S512x256 .bf16 :=
  shapeCast S512x256 (truncf .bf16 (mulf (mulf G (divf (broadcast S512x256 (Scalar.ofBits .f32 0x3F800000#32)) (addf (broadcast S512x256 (Scalar.ofBits .f32 0x3F800000#32))
    (exp (subf (broadcast S512x256 (Scalar.ofBits .f32 0x00000000#32)) G))))) V) bitsLt_bf16_f32) shapeCasts_S512x256_S512x256

theorem row_bit : ∀ r : Fin 8, IntOp.cmpi CmpIPredicate.slt (BitVec.ofNat 32 r.val) 1#32 = BitVec.ofBool (decide (r.val < 1))
    ∧ IntOp.cmpi CmpIPredicate.slt (BitVec.ofNat 32 r.val) 2#32 = BitVec.ofBool (decide (r.val < 2)) := by decide +kernel

theorem shift1 (U : FVec Ideal S512x256 .f32) (P : FVec Ideal S8x256 .f32) (r : Fin 512) (f : Fin 256) :
    shift 1#32 U P (ix2 r f) = if h : r.val < 1 then P (ix2 ⟨7 + r.val, by omega⟩ f) else U (ix2 ⟨r.val - 1, by omega⟩ f) := by
  pointwise [shift]
  by_cases h8 : r.val < 8
  · have hb := (row_bit ⟨r.val, h8⟩).1
    dsimp only at hb
    rw [dif_pos h8, hb]
    by_cases h : r.val < 1
    · rw [dif_pos h, decide_eq_true h]
      exact congrArg P (congrArg (ix2 · f) (Fin.ext (show (r.val + 8 - 1) % 8 = 7 + r.val by omega)))
    · rw [dif_neg h, decide_eq_false h]
      exact congrArg U (congrArg (ix2 · f) (Fin.ext (show (r.val + 512 - 1) % 512 = r.val - 1 by omega)))
  · rw [dif_neg h8, dif_neg (by omega)]
    exact congrArg U (congrArg (ix2 · f) (Fin.ext (show (8 + (r.val - 8) + 512 - 1) % 512 = r.val - 1 by omega)))

theorem shift2 (U : FVec Ideal S512x256 .f32) (P : FVec Ideal S8x256 .f32) (r : Fin 512) (f : Fin 256) :
    shift 2#32 U P (ix2 r f) = if h : r.val < 2 then P (ix2 ⟨6 + r.val, by omega⟩ f) else U (ix2 ⟨r.val - 2, by omega⟩ f) := by
  pointwise [shift]
  by_cases h8 : r.val < 8
  · have hb := (row_bit ⟨r.val, h8⟩).2
    dsimp only at hb
    rw [dif_pos h8, hb]
    by_cases h : r.val < 2
    · rw [dif_pos h, decide_eq_true h]
      exact congrArg P (congrArg (ix2 · f) (Fin.ext (show (r.val + 8 - 2) % 8 = 6 + r.val by omega)))
    · rw [dif_neg h, decide_eq_false h]
      exact congrArg U (congrArg (ix2 · f) (Fin.ext (show (r.val + 512 - 2) % 512 = r.val - 2 by omega)))
  · rw [dif_neg h8, dif_neg (by omega)]
    exact congrArg U (congrArg (ix2 · f) (Fin.ext (show (8 + (r.val - 8) + 512 - 2) % 512 = r.val - 2 by omega)))

theorem conv_apply (U : FVec Ideal S512x256 .f32) (P : FVec Ideal S8x256 .f32) (b w2 w1 w0 : FVec Ideal S1x256 .f32) (r : Fin 512) (f : Fin 256) :
    conv U P b w2 w1 w0 (ix2 r f) = b (ix2 0 f) + w2 (ix2 0 f) * U (ix2 r f) + w1 (ix2 0 f) * shift 1#32 U P (ix2 r f) + w0 (ix2 0 f) * shift 2#32 U P (ix2 r f) := by
  pointwise [conv]

open Cert.FfnReferenceIdeal.Read

variable (X : FVec Ideal S16384x1024 .f32) (A : FVec Ideal S1x1024x5632 .f32) (C : FVec Ideal S1x3x5632 .f32) (B : FVec Ideal S1x5632 .f32)

/-- The last rows of the block before, nothing before the first. -/
def tail (n : ℕ) (hn : n < 32) (s : Fin 8) (F : Fin 5632) : EReal :=
  if h : n = 0 then 0 else val_main_v1 (F := Ideal) X A (ix2 ⟨(n - 1) * 512 + 504 + s.val, by omega⟩ F)

theorem tail_first (n : ℕ) (hn : n < 32) (s : Fin 8) (F : Fin 5632) (h : n = 0) : tail X A n hn s F = 0 := dif_pos h

theorem tail_later (n : ℕ) (hn : n < 32) (s : Fin 8) (F : Fin 5632) (h : ¬n = 0) :
    tail X A n hn s F = val_main_v1 (F := Ideal) X A (ix2 ⟨(n - 1) * 512 + 504 + s.val, by omega⟩ F) := dif_neg h

theorem taps2 (v : Fin 16384 → EReal) (R : Fin 16384) :
    (if h : 2 ≤ R.val ∧ R.val - 2 < 16384 then v ⟨R.val - 2, h.2⟩ else FloatOps.sitofp (F := Ideal) FTy.f32 0#32) = if h : R.val < 2 then 0 else v ⟨R.val - 2, by omega⟩ := by
  by_cases h : R.val < 2
  · rw [dif_neg (by omega), dif_pos h]; simp [FloatOps.sitofp]
  · rw [dif_pos (by omega), dif_neg h]

theorem taps1 (v : Fin 16384 → EReal) (R : Fin 16384) :
    (if h : 2 ≤ 1 + R.val ∧ 1 + R.val - 2 < 16384 then v ⟨1 + R.val - 2, h.2⟩ else FloatOps.sitofp (F := Ideal) FTy.f32 0#32) = if h : R.val < 1 then 0 else v ⟨R.val - 1, by omega⟩ := by
  by_cases h : R.val < 1
  · rw [dif_neg (by omega), dif_pos h]; simp [FloatOps.sitofp]
  · rw [dif_pos (by omega), dif_neg h]
    exact congrArg v (Fin.ext (show 1 + R.val - 2 = R.val - 1 by omega))

/-- The reference's convolution, entry by entry. -/
theorem ref_conv (R : Fin 16384) (F : Fin 5632) : val_main_v29 (F := Ideal) X A C B (ix2 R F)
    = C (ix3 0 0 F) * (if h : R.val < 2 then 0 else val_main_v1 (F := Ideal) X A (ix2 ⟨R.val - 2, by omega⟩ F))
      + C (ix3 0 1 F) * (if h : R.val < 1 then 0 else val_main_v1 (F := Ideal) X A (ix2 ⟨R.val - 1, by omega⟩ F))
      + C (ix3 0 2 F) * val_main_v1 (F := Ideal) X A (ix2 R F) + B (ix2 0 F) := by
  pointwise [val_main_v29, val_main_v28, val_main_v27, val_main_v3, val_main_v26, val_main_v25, val_main_v24, val_main_v23, val_main_v21, val_main_v20, val_main_v2, val_main_v22, val_main_v4, val_main_v19,
    val_main_v18, val_main_v17, val_main_v16, val_main_v14, val_main_v13, val_main_v15, val_main_v12, val_main_v11, val_main_cst, val_main_v10, val_main_v9, val_main_v8, val_main_v6, val_main_v5, val_main_v7,
    val_main_call0_v0, val_main_c]
  exact congrArg (· + B (ix2 0 F)) (congrArg (· + C (ix3 0 2 F) * val_main_v1 (F := Ideal) X A (ix2 R F)) (congrArg₂ (· + ·)
    (congrArg (C (ix3 0 0 F) * ·) (taps2 (fun r => val_main_v1 (F := Ideal) X A (ix2 r F)) R))
    (congrArg (C (ix3 0 1 F) * ·) (taps1 (fun r => val_main_v1 (F := Ideal) X A (ix2 r F)) R))))

theorem act_apply (G V : FVec Ideal S512x256 .f32) (r : Fin 512) (f : Fin 256) (R : Fin 16384) (F : Fin 2816)
    (hG : G (ix2 r f) = val_main_v29 (F := Ideal) X A C B (ix2 R ⟨F.val, by omega⟩)) (hV : V (ix2 r f) = val_main_v29 (F := Ideal) X A C B (ix2 R ⟨2816 + F.val, by omega⟩)) :
    act G V (ix2 r f) = val_main_v33 (F := Ideal) X A C B (ix2 R F) := by
  pointwise [act, val_main_v33, val_main_v32, val_main_v31, val_main_v30, val_main_call1_v5, val_main_call1_v4, val_main_call1_cst_0, val_main_call1_v3, val_main_call1_cst, val_main_call1_v2, val_main_call1_v1, val_main_call1_v0, zero_sub]
  rw [hG, hV]

/-- A block of columns of the first product. -/
def up (H : FVec Ideal S512x1024 .f32) (W : FVec Ideal S1024x256 .bf16) : FVec Ideal S512x256 .f32 := k0_pay8 (k0_pay3 H) W

theorem up_apply (H : FVec Ideal S512x1024 .f32) (W : FVec Ideal S1024x256 .bf16) (r : Fin 512) (f : Fin 256) (R : Fin 16384) (F : Fin 5632)
    (hH : ∀ d, H (ix2 r d) = X (ix2 R d)) (hW : ∀ d, W (ix2 d f) = A (ix3 0 d F)) : up H W (ix2 r f) = val_main_v1 (F := Ideal) X A (ix2 R F) := by
  pointwise [up, k0_pay8, k0_pay3, val_main_v1, val_main_v0]
  exact Finset.sum_congr rfl fun d _ => by rw [hH, hW]

/-- A block of columns of the reference's convolution. -/
theorem conv_eq (n : ℕ) (hn : n < 32) (U : FVec Ideal S512x256 .f32) (P : FVec Ideal S8x256 .f32) (b w2 w1 w0 : FVec Ideal S1x256 .f32) (f : Fin 256) (F : Fin 5632)
    (hU : ∀ r : Fin 512, U (ix2 r f) = val_main_v1 (F := Ideal) X A (ix2 ⟨n * 512 + r.val, by omega⟩ F)) (hP : ∀ s, P (ix2 s f) = tail X A n hn s F)
    (hb : b (ix2 0 f) = B (ix2 0 F)) (h2 : w2 (ix2 0 f) = C (ix3 0 2 F)) (h1 : w1 (ix2 0 f) = C (ix3 0 1 F)) (h0 : w0 (ix2 0 f) = C (ix3 0 0 F)) (r : Fin 512) :
    conv U P b w2 w1 w0 (ix2 r f) = val_main_v29 (F := Ideal) X A C B (ix2 ⟨n * 512 + r.val, by omega⟩ F) := by
  have e1 : shift 1#32 U P (ix2 r f) = if h : n * 512 + r.val < 1 then 0 else val_main_v1 (F := Ideal) X A (ix2 ⟨n * 512 + r.val - 1, by omega⟩ F) := by
    rw [shift1]
    by_cases h : r.val < 1
    · rw [dif_pos h, hP, tail]
      by_cases hz : n = 0
      · rw [dif_pos hz, dif_pos (by omega)]
      · rw [dif_neg hz, dif_neg (by omega)]
        exact congrArg _ (congrArg (ix2 · F) (Fin.ext (show (n - 1) * 512 + 504 + (7 + r.val) = n * 512 + r.val - 1 by omega)))
    · rw [dif_neg h, hU, dif_neg (by omega)]
      exact congrArg _ (congrArg (ix2 · F) (Fin.ext (show n * 512 + (r.val - 1) = n * 512 + r.val - 1 by omega)))
  have e2 : shift 2#32 U P (ix2 r f) = if h : n * 512 + r.val < 2 then 0 else val_main_v1 (F := Ideal) X A (ix2 ⟨n * 512 + r.val - 2, by omega⟩ F) := by
    rw [shift2]
    by_cases h : r.val < 2
    · rw [dif_pos h, hP, tail]
      by_cases hz : n = 0
      · rw [dif_pos hz, dif_pos (by omega)]
      · rw [dif_neg hz, dif_neg (by omega)]
        exact congrArg _ (congrArg (ix2 · F) (Fin.ext (show (n - 1) * 512 + 504 + (6 + r.val) = n * 512 + r.val - 2 by omega)))
    · rw [dif_neg h, hU, dif_neg (by omega)]
      exact congrArg _ (congrArg (ix2 · F) (Fin.ext (show n * 512 + (r.val - 2) = n * 512 + r.val - 2 by omega)))
  rw [conv_apply, ref_conv, e1, e2, hU, hb, h2, h1, h0]
  abel

end Cert.Ffn

end
-- ==== Proof.Ffn.Halo.lean ====
/-
  THE FEED-FORWARD CALL, its loads: what a point reads of its blocks, and the rows it hands to the next point.
-/
module

public import proofs.«01_k».proof.Proof.Ffn.Conv

@[expose] public section

set_option maxRecDepth 16384

noncomputable section

namespace Cert.Ffn

open Cert.FfnKernelIdeal Cert.FfnKernelIdeal.Gen
open Idealize.ShloMosaic Idealize.ShloMosaic.TcCoe Idealize.SL.Sem
open Idealize.ShloMosaic.Pipeline (Dat)
open Cert.FfnReferenceIdeal.Read

variable (m : (ℓ : Loc nD τ sig) → Buf (Elt Ideal) ℓ)

/-- The block indices of the windows: a point's own rows of the row operand and of the result, everything of the rest. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

abbrev Xs (c : Dev nD) : FVec Ideal S16384x1024 .f32 := m ((c : Thread nD τ).loc main_arg0)
abbrev As (c : Dev nD) : FVec Ideal S1x1024x5632 .f32 := m ((c : Thread nD τ).loc main_arg1)
abbrev Cs (c : Dev nD) : FVec Ideal S1x3x5632 .f32 := m ((c : Thread nD τ).loc main_arg2)
abbrev Bs (c : Dev nD) : FVec Ideal S1x5632 .f32 := m ((c : Thread nD τ).loc main_arg3)

theorem x_at (c : Dev nD) (t : Fin cfg0.N) (r : Fin 512) (d : Fin 1024) (h : t.val * 512 + r.val < 16384) :
    iblk m c 0 t (ix2 r d) = Xs m c (ix2 ⟨t.val * 512 + r.val, h⟩ d) := by
  blk_point [iblk, V, idx t]

theorem w_at (c : Dev nD) (t : Fin cfg0.N) (o : ℕ) (ho : o + 256 ≤ 5632) (p) (d : Fin 1024) (f : Fin 256) :
    View.ld (iblk m c 1 t) (Rect.unit (s := S1024x5632) ![0, o] ![1024, 256] p) (ix2 d f) = As m c (ix3 0 d ⟨o + f.val, by omega⟩) := by
  unfold View.ld
  blk_point [iblk, V, idx t, Rect.idx_unit_val]

theorem c_at (c : Dev nD) (t : Fin cfg0.N) (k : Fin 3) (o : ℕ) (ho : o + 256 ≤ 5632) (p) (f : Fin 256) :
    View.ld (iblk m c 2 t) (Rect.unit (s := S3x5632) ![k.val, o] ![1, 256] p) (ix2 0 f) = Cs m c (ix3 0 k ⟨o + f.val, by omega⟩) := by
  unfold View.ld
  blk_point [iblk, V, idx t, Rect.idx_unit_val]

theorem b_at (c : Dev nD) (t : Fin cfg0.N) (o : ℕ) (ho : o + 256 ≤ 5632) (p) (f : Fin 256) :
    View.ld (iblk m c 3 t) (Rect.unit (s := S1x5632) ![0, o] ![1, 256] p) (ix2 0 f) = Bs m c (ix2 0 ⟨o + f.val, by omega⟩) := by
  unfold View.ld
  blk_point [iblk, V, idx t, Rect.idx_unit_val]

/-- What a point hands on at a block of columns. -/
theorem store (c : Dev nD) (t : Fin cfg0.N) (o : ℕ) (ho : o + 256 ≤ 5632) (p) (x : S8x256.Idx) (z : S8x5632.Idx) (h0 : (z 0).val = (x 0).val) (h1 : (z 1).val = o + (x 1).val)
    (h : t.val * 512 + 504 + (z 0).val < 16384) :
    k0_pay9 (k0_pay3 (iblk m c 0 t)) (View.ld (iblk m c 1 t) (Rect.unit (s := S1024x5632) ![0, o] ![1024, 256] p)) x
      = val_main_v1 (F := Ideal) (Xs m c) (As m c) (ix2 ⟨t.val * 512 + 504 + (z 0).val, h⟩ (z 1)) := by
  obtain ⟨s, f, rfl⟩ : ∃ s f, x = ix2 s f := ⟨x 0, x 1, by funext a; fin_cases a <;> rfl⟩
  obtain ⟨s', ⟨F, hF⟩, rfl⟩ : ∃ s f, z = ix2 s f := ⟨z 0, z 1, by funext a; fin_cases a <;> rfl⟩
  change s'.val = s.val at h0
  change F = o + f.val at h1
  obtain rfl : s' = s := Fin.ext h0
  subst h1
  refine Eq.trans ?_ ((up_apply (Xs m c) (As m c) (iblk m c 0 t) (View.ld (iblk m c 1 t) (Rect.unit (s := S1024x5632) ![0, o] ![1024, 256] p)) ⟨504 + s'.val, by omega⟩ f _ ⟨o + f.val, hF⟩
    (fun d => x_at m c t ⟨504 + s'.val, by omega⟩ d (show t.val * 512 + (504 + s'.val) < 16384 by have : t.val < 32 := t.isLt; omega)) (fun d => w_at m c t o ho p d f)).trans ?_)
  · pointwise [k0_pay9, up]
  · exact congrArg _ (congrArg (ix2 · _) (Fin.ext (show t.val * 512 + (504 + s'.val) = t.val * 512 + 504 + s'.val by omega)))

theorem canon_take {S : Shape} {e : EltTy} (L : List (View.Piece (Elt Ideal) S e)) (k : ℕ) (y : S.Idx) (h : ∃ p ∈ L.take k, y ∈ p.1.set) :
    View.canon L y = View.canon (L.take k) y := by
  induction L generalizing k with
  | nil => simp
  | cons p L ih =>
    cases k with
    | zero => simp at h
    | succ k =>
      rw [List.take_succ_cons]
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih k ?_
        obtain ⟨q, hq, hy⟩ := h
        rw [List.take_succ_cons] at hq
        rcases List.mem_cons.mp hq with rfl | hq
        · exact absurd hy hm
        · exact ⟨q, hq, hy⟩

theorem canon_pass {S : Shape} {e : EltTy} (L M : List (View.Piece (Elt Ideal) S e)) (y : S.Idx) (h : ∀ p ∈ L, y ∉ p.1.set) :
    View.canon (L ++ M) y = View.canon M y := by
  induction L with
  | nil => rfl
  | cons p L ih =>
    rw [List.cons_append, View.canon_cons_of_not_mem _ _ (h p List.mem_cons_self)]
    exact ih fun q hq => h q (List.mem_cons_of_mem _ hq)

/-- Before the first write of its columns a load sees the zeros. -/
theorem zeros (o : ℕ) (p p') (L : List (View.Piece (Elt Ideal) S8x5632 (.f32 : EltTy)))
    (hl : L.getLast? = some ⟨Rect.unit (s := S8x5632) ![0, 0] ![8, 5632] p', k0_pay2 (F := Ideal)⟩)
    (hd : LoadRect.disjAll (L.dropLast.map Sigma.fst) (Rect.unit (s := S8x5632) ![0, o] ![8, 256] p).toLoadRect = true) (s : Fin 8) (f : Fin 256) :
    ((View.whole cc0_scratch0).readCov (Val := Elt Ideal) L (Rect.unit (s := S8x5632) ![0, o] ![8, 256] p).toLoadRect : FVec Ideal S8x256 .f32) (ix2 s f) = (0 : EReal) := by
  rw [View.readCov_eq_canon']
  dsimp only
  rw [← List.dropLast_append_getLast? _ (Option.mem_def.mpr hl), canon_pass _ _ _ (LoadRect.forall_not_mem_of_disjAll _ _ hd (ix2 s f)),
    View.canon_cons_unit_lit (S := S8x5632) (off := ![0, 0]) p' _ _ (by decide)]
  pointwise [k0_pay2]

theorem haloB (c : Dev nD) (t : Fin cfg0.N) (h : ¬t.val % 32 = 0) (z : S8x5632.Idx) (hz : t.val * 512 + 504 + (z 0).val < 16384) :
    (outsAt0 m c t.val t.isLt).2 z = val_main_v1 (F := Ideal) (Xs m c) (As m c) (ix2 ⟨t.val * 512 + 504 + (z 0).val, hz⟩ (z 1)) := by
  rw [outsAt0_B m c t h]
  unfold sout0_B_0
  frame_out
  canon_tiles x h
  all_goals exact store m c t _ (by omega) _ x z h0 (by omega) hz

theorem haloA (c : Dev nD) (t : Fin cfg0.N) (h : t.val % 32 = 0) (z : S8x5632.Idx) (hz : t.val * 512 + 504 + (z 0).val < 16384) :
    (outsAt0 m c t.val t.isLt).2 z = val_main_v1 (F := Ideal) (Xs m c) (As m c) (ix2 ⟨t.val * 512 + 504 + (z 0).val, hz⟩ (z 1)) := by
  rw [outsAt0_A m c t h]
  unfold sout0_A_0
  frame_out
  refine (canon_take _ 22 z (by dsimp only [List.take]; exact View.cover_of_tiled_head _ _ _ rfl _)).trans ?_
  dsimp only [List.take]
  canon_tiles x h
  all_goals exact store m c t _ (by omega) _ x z h0 (by omega) hz

theorem halo (c : Dev nD) (t : Fin cfg0.N) (z : S8x5632.Idx) (hz : t.val * 512 + 504 + (z 0).val < 16384) :
    (outsAt0 m c t.val t.isLt).2 z = val_main_v1 (F := Ideal) (Xs m c) (As m c) (ix2 ⟨t.val * 512 + 504 + (z 0).val, hz⟩ (z 1)) := by
  by_cases h : t.val % 32 = 0
  · exact haloA m c t h z hz
  · exact haloB m c t h z hz

/-- What a later point reads of the rows handed to it. -/
theorem prev_at (c : Dev nD) (t : Fin cfg0.N) (h : ¬t.val % 32 = 0) (hw : (Memref.whole cc0_scratch0).IsWhole) (hl) (o : ℕ) (ho : o + 256 ≤ 5632) (p) (s : Fin 8) (f : Fin 256) :
    View.ld (View.read (Elt Ideal) (View.whole cc0_scratch0) (hw.unread (outsAt0 m c (t.val - 1) hl).2)) (Rect.unit (s := S8x5632) ![0, o] ![8, 256] p) (ix2 s f)
      = tail (Xs m c) (As m c) t.val t.isLt s ⟨o + f.val, by omega⟩ := by
  rw [tail_later (Xs m c) (As m c) t.val t.isLt s _ (by omega)]
  have e : View.read (Elt Ideal) (View.whole cc0_scratch0) (hw.unread (outsAt0 m c (t.val - 1) hl).2) = (outsAt0 m c (t.val - 1) hl).2 := hw.read_unread _
  rw [e]
  have hi : (Rect.unit (s := S8x5632) ![0, o] ![8, 256] p).idx (ix2 s f) = ix2 s ⟨o + f.val, by omega⟩ := by
    funext a
    fin_cases a
    · exact Fin.ext ((Rect.idx_unit_val _ _ _ _ 0).trans (Nat.zero_add _))
    · exact Fin.ext (Rect.idx_unit_val _ _ _ _ 1)
  unfold View.ld
  rw [hi]
  exact halo m c ⟨t.val - 1, hl⟩ (ix2 s ⟨o + f.val, by omega⟩) (show (t.val - 1) * 512 + 504 + s.val < 16384 by have : t.val < 32 := t.isLt; omega)

theorem conv_at (c : Dev nD) (t : Fin cfg0.N) (o : ℕ) (ho : o + 256 ≤ 5632) (P : FVec Ideal S8x256 .f32) (hP : ∀ s f, P (ix2 s f) = tail (Xs m c) (As m c) t.val t.isLt s ⟨o + f.val, by omega⟩)
    (p1 p2 p3 p4 p5) (r : Fin 512) (f : Fin 256) (h : t.val * 512 + r.val < 16384) :
    conv (up (iblk m c 0 t) (View.ld (iblk m c 1 t) (Rect.unit (s := S1024x5632) ![0, o] ![1024, 256] p1))) P (View.ld (iblk m c 3 t) (Rect.unit (s := S1x5632) ![0, o] ![1, 256] p2))
        (View.ld (iblk m c 2 t) (Rect.unit (s := S3x5632) ![2, o] ![1, 256] p3)) (View.ld (iblk m c 2 t) (Rect.unit (s := S3x5632) ![1, o] ![1, 256] p4))
        (View.ld (iblk m c 2 t) (Rect.unit (s := S3x5632) ![0, o] ![1, 256] p5)) (ix2 r f)
      = val_main_v29 (F := Ideal) (Xs m c) (As m c) (Cs m c) (Bs m c) (ix2 ⟨t.val * 512 + r.val, h⟩ ⟨o + f.val, by omega⟩) :=
  conv_eq (Xs m c) (As m c) (Cs m c) (Bs m c) t.val t.isLt _ P _ _ _ _ f ⟨o + f.val, by omega⟩
    (fun r => up_apply (Xs m c) (As m c) _ _ r f _ _ (fun d => x_at m c t r d (by have : t.val < 32 := t.isLt; omega)) (fun d => w_at m c t o ho p1 d f)) (fun s => hP s f)
    (b_at m c t o ho p2 f) (c_at m c t 2 o ho p3 f) (c_at m c t 1 o ho p4 f) (c_at m c t 0 o ho p5 f) r

/-- A block of columns of the activation. -/
theorem chunk_at (c : Dev nD) (t : Fin cfg0.N) (o o' : ℕ) (ho : o + 256 ≤ 2816) (h' : o' = 2816 + o) (P Q : FVec Ideal S8x256 .f32)
    (hP : ∀ s f, P (ix2 s f) = tail (Xs m c) (As m c) t.val t.isLt s ⟨o + f.val, by omega⟩) (hQ : ∀ s f, Q (ix2 s f) = tail (Xs m c) (As m c) t.val t.isLt s ⟨o' + f.val, by omega⟩)
    (p1 p2 p3 p4 p5 q1 q2 q3 q4 q5) (x : S512x256.Idx) (y : S512x2816.Idx) (h0 : (y 0).val = (x 0).val) (h1 : (y 1).val = o + (x 1).val) (h : t.val * 512 + (y 0).val < 16384) :
    act (conv (up (iblk m c 0 t) (View.ld (iblk m c 1 t) (Rect.unit (s := S1024x5632) ![0, o] ![1024, 256] p1))) P (View.ld (iblk m c 3 t) (Rect.unit (s := S1x5632) ![0, o] ![1, 256] p2))
          (View.ld (iblk m c 2 t) (Rect.unit (s := S3x5632) ![2, o] ![1, 256] p3)) (View.ld (iblk m c 2 t) (Rect.unit (s := S3x5632) ![1, o] ![1, 256] p4))
          (View.ld (iblk m c 2 t) (Rect.unit (s := S3x5632) ![0, o] ![1, 256] p5)))
        (conv (up (iblk m c 0 t) (View.ld (iblk m c 1 t) (Rect.unit (s := S1024x5632) ![0, o'] ![1024, 256] q1))) Q (View.ld (iblk m c 3 t) (Rect.unit (s := S1x5632) ![0, o'] ![1, 256] q2))
          (View.ld (iblk m c 2 t) (Rect.unit (s := S3x5632) ![2, o'] ![1, 256] q3)) (View.ld (iblk m c 2 t) (Rect.unit (s := S3x5632) ![1, o'] ![1, 256] q4))
          (View.ld (iblk m c 2 t) (Rect.unit (s := S3x5632) ![0, o'] ![1, 256] q5))) x
      = val_main_v33 (F := Ideal) (Xs m c) (As m c) (Cs m c) (Bs m c) (ix2 ⟨t.val * 512 + (y 0).val, h⟩ (y 1)) := by
  obtain ⟨r, f, rfl⟩ : ∃ r f, x = ix2 r f := ⟨x 0, x 1, by funext a; fin_cases a <;> rfl⟩
  obtain ⟨r', ⟨F, hF⟩, rfl⟩ : ∃ r f, y = ix2 r f := ⟨y 0, y 1, by funext a; fin_cases a <;> rfl⟩
  change r'.val = r.val at h0
  change F = o + f.val at h1
  obtain rfl : r' = r := Fin.ext h0
  subst h1
  refine act_apply (Xs m c) (As m c) (Cs m c) (Bs m c) _ _ r' f _ ⟨o + f.val, hF⟩ (conv_at m c t o (by omega) P hP p1 p2 p3 p4 p5 r' f h)
    ((conv_at m c t o' (by omega) Q hQ q1 q2 q3 q4 q5 r' f h).trans ?_)
  exact congrArg _ (congrArg (ix2 _) (Fin.ext (show o' + f.val = 2816 + (o + f.val) by omega)))

end Cert.Ffn

end
-- ==== Proof.Ffn.Final.lean ====
/-
  THE FEED-FORWARD CALL: the array the kernel leaves is the reference's term over the same arguments.
-/
module

public import proofs.«01_k».proof.Proof.Ffn.Halo

@[expose] public section

set_option maxRecDepth 16384

noncomputable section

namespace Cert.Ffn

open Cert.FfnKernelIdeal Cert.FfnKernelIdeal.Gen
open Idealize.ShloMosaic Idealize.ShloMosaic.TcCoe Idealize.SL.Sem
open Idealize.ShloMosaic.Pipeline (Dat)
open Cert.FfnReferenceIdeal.Read

variable (m : (ℓ : Loc nD τ sig) → Buf (Elt Ideal) ℓ)

/-- The reference's result over the kernel's arguments. -/
abbrev REF (c : Dev nD) : FVec Ideal S16384x1024 .f32 :=
  val_main_v62 (F := Ideal) (Xs m c) (As m c) (Cs m c) (Bs m c) (m ((c : Thread nD τ).loc main_arg4)) (m ((c : Thread nD τ).loc main_arg5)) (m ((c : Thread nD τ).loc main_arg6))

/-- WHAT POINT `t` STORES, from its rows of the activation. -/
theorem point (c : Dev nD) (t : Fin cfg0.N) (L : FVec Ideal S512x2816 .bf16)
    (hL : ∀ y : S512x2816.Idx, L y = val_main_v33 (F := Ideal) (Xs m c) (As m c) (Cs m c) (Bs m c) (ix2 ⟨t.val * 512 + (y 0).val, by have : t.val < 32 := t.isLt; have : (y 0).val < 512 := (y 0).isLt; omega⟩ (y 1)))
    (y : S512x1024.Idx) :
    k0_pay1 (F := Ideal) (k0_pay132 (iblk m c 5 t)) (k0_pay133 (iblk m c 6 t)) (k0_pay134 L (k0_pay131 (iblk m c 4 t)) (constant S512x1024 FTy.f32 0#32) (iblk m c 0 t))
      (k0_pay135 L (k0_pay131 (iblk m c 4 t)) (constant S512x1024 FTy.f32 0#32) (iblk m c 0 t)) (Scalar.ofBits FTy.f32 0x3727C5AC#32) y = REF m c (((cfg0.win 7).blk t).view.emb y) := by
  obtain rfl : L = _ := funext hL
  clear hL
  pointwise [k0_pay1, k0_pay131, k0_pay132, k0_pay133, k0_pay134, k0_pay135, REF, val_main_v34, val_main_v35, val_main_cst_0, val_main_v36, val_main_v37, val_main_v38, val_main_v39, val_main_v40, val_main_cst_1, val_main_v41, val_main_v42, val_main_cst_2, val_main_v43, val_main_v44, val_main_v45, val_main_v46, val_main_v47, val_main_cst_3, val_main_v48, val_main_v49, val_main_cst_4, val_main_v50, val_main_v51, val_main_cst_5, val_main_v52, val_main_v53, val_main_v54, val_main_v55, val_main_v56, val_main_v57, val_main_v58, val_main_v59, val_main_v60, val_main_v61, val_main_v62]
  blk_point [iblk, V, idx t]

theorem whole_idx (p) (z : S512x2816.Idx) : (Rect.unit (s := S512x2816) ![0, 0] ![512, 2816] p).toLoadRect.idx z = z := by
  funext a
  fin_cases a
  · exact Fin.ext ((Rect.idx_unit_val _ _ _ _ 0).trans (Nat.zero_add _))
  · exact Fin.ext ((Rect.idx_unit_val _ _ _ _ 1).trans (Nat.zero_add _))

/-- What a later point stores. -/
theorem outB (c : Dev nD) (t : Fin cfg0.N) (h : ¬t.val % 32 = 0) (y : S512x1024.Idx) : (outsAt0 m c t.val t.isLt).1 y = REF m c (((cfg0.win 7).blk t).view.emb y) := by
  rw [outsAt0_B m c t h]
  unfold out0_B_7
  frame_out
  refine point m c t _ (fun z => ?_) y
  have hz : t.val * 512 + (z 0).val < 16384 := by have : t.val < 32 := t.isLt; have : (z 0).val < 512 := (z 0).isLt; omega
  rw [View.readCov_eq_canon']
  dsimp only
  rw [whole_idx]
  canon_tiles x h
  all_goals exact chunk_at m c t _ _ (by omega) (by omega) _ _ (prev_at m c t h _ _ _ (by omega) _) (prev_at m c t h _ _ _ (by omega) _) _ _ _ _ _ _ _ _ _ _ x z h0 (by omega) hz

set_option maxHeartbeats 2000000 in
/-- What the first point stores. -/
theorem outA (c : Dev nD) (t : Fin cfg0.N) (h : t.val % 32 = 0) (y : S512x1024.Idx) : (outsAt0 m c t.val t.isLt).1 y = REF m c (((cfg0.win 7).blk t).view.emb y) := by
  have h32 : t.val = 0 := by have : t.val < 32 := t.isLt; omega
  rw [outsAt0_A m c t h]
  unfold out0_A_7
  frame_out
  refine point m c t _ (fun z => ?_) y
  have hz : t.val * 512 + (z 0).val < 16384 := by have : t.val < 32 := t.isLt; have : (z 0).val < 512 := (z 0).isLt; omega
  rw [View.readCov_eq_canon']
  dsimp only
  rw [whole_idx]
  canon_tiles x h
  all_goals
    exact chunk_at m c t _ _ (by omega) (by omega) _ _
      (fun s f => (zeros _ _ inb_S8x5632_S8x5632_0_0 _ rfl rfl s f).trans (tail_first _ _ _ _ _ _ h32).symm)
      (fun s f => (zeros _ _ inb_S8x5632_S8x5632_0_0 _ rfl rfl s f).trans (tail_first _ _ _ _ _ _ h32).symm) _ _ _ _ _ _ _ _ _ _ x z h0 (by omega) hz

/-- THE ARRAY after the run: the reference's result, for the blocks of rows cover it. -/
theorem final (c : Dev nD) : (dats m 0 c).arrAt 7 (cfgs 0).N = REF m c := by
  refine (dats m 0 c).arrAt_eq_of_covers 7 _ (by decide +kernel) fun t _ y => ?_
  blk_simp
  rw [after0_7]
  by_cases h : t.val % 32 = 0
  · exact outA m c t h y
  · exact outB m c t h y

end Cert.Ffn

end
-- ==== Proof.Ffn.Claim.lean ====
/-
  THE CLAIMS about the Ffn programs, from their runs.
-/
module

public import proofs.«01_k».proof.Defs
public import proofs.«01_k».proof.Proof.Ffn.Final
public import proofs.«01_k».proof.Proof.Gen.FfnKernel.Frame
public import proofs.«01_k».proof.Proof.Gen.FfnReferenceIdeal.Run
public import proofs.«01_k».proof.Proof.Gen.FfnReferenceIdeal.Read
public import Idealize.ShloMosaic.Lib.Claim

@[expose] public section

set_option maxRecDepth 16384

noncomputable section

namespace Cert.Ffn

open Idealize.ShloMosaic Idealize.ShloMosaic.TcCoe Idealize.SL.Sem

theorem frame : Cert.quiescent_FfnKernel := fun m ρ _ => Cert.FfnKernel.Gen.frame m ρ

theorem frame_ideal : Cert.quiescent_FfnKernelIdeal := fun m ρ _ => Cert.FfnKernelIdeal.Gen.frame m ρ

theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run m ρ)

theorem algebraic : Cert.algebraic_FfnKernelIdeal_FfnReferenceIdeal := by
  pair_intro
  · run_from Cert.FfnKernelIdeal.Gen.run_main m g
  · run_from Cert.FfnReferenceIdeal.Value.run m' g'
    rw [Cert.FfnReferenceIdeal.Read.val_main_v62_eq, (hagree c).1, (hagree c).2.1, (hagree c).2.2.1, (hagree c).2.2.2.1,
      (hagree c).2.2.2.2.1, (hagree c).2.2.2.2.2.1, (hagree c).2.2.2.2.2.2]
    exact (final m c).symm

end Cert.Ffn

end
-- ==== Proof.Inproj.Entries.lean ====
/-
  THE INPUT PROJECTION, entry by entry: what a point's two blocks hold, and the reference's five results, in terms of one
  function `dotAt` (a row of the rows times a column of the weights).
-/
module

public import proofs.«01_k».proof.Proof.Gen.InprojKernelIdeal.Frame
public import proofs.«01_k».proof.Proof.Gen.InprojReferenceIdeal.Read
public import Idealize.ShloMosaic.Lib.Pipeline.ValueKit
public import Idealize.ShloMosaic.Lib.KernelVsHost

@[expose] public section

set_option maxRecDepth 16384

noncomputable section

namespace Cert.Inproj

open Cert.InprojKernelIdeal Cert.InprojKernelIdeal.Gen
open Idealize.ShloMosaic Idealize.ShloMosaic.TcCoe Idealize.SL.Sem
open Idealize.ShloMosaic.Pipeline (Dat)

variable (m : (ℓ : Loc nD τ sig) → Buf (Elt Ideal) ℓ)

/-- The block indices of the windows: a point's own rows of the rows and of the results, all the weights. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `k` of the weights at column `n`; zero past the last column. -/
def wAt (W : FVec Ideal S1x1024x8480 .f32) (k : Fin 1024) (n : ℕ) : EReal :=
  if h : n < 8480 then W (ix3 0 k ⟨n, h⟩) else 0

theorem wAt_of {W : FVec Ideal S1x1024x8480 .f32} {k : Fin 1024} {n : ℕ} (h : n < 8480) : wAt W k n = W (ix3 0 k ⟨n, h⟩) := by
  rw [wAt, dif_pos h]

theorem wAt_out {W : FVec Ideal S1x1024x8480 .f32} {k : Fin 1024} {n : ℕ} (h : ¬ n < 8480) : wAt W k n = 0 := by
  rw [wAt, dif_neg h]

/-- ONE ENTRY of the projection: row `r` of the rows times column `n` of the weights. -/
def dotAt (X : FVec Ideal S1x16384x1024 .f32) (W : FVec Ideal S1x1024x8480 .f32) (r n : ℕ) : EReal :=
  if h : r < 16384 then ∑ k : Fin 1024, X (ix3 0 ⟨r, h⟩ k) * wAt W k n else 0

/-- Where column `n` of the kernel's reordered weights comes from: the columns of the step sizes are moved to the end, before
    columns of zeros (sent outside the array here). -/
def col (n : ℕ) : ℕ := if n < 5120 then n else if n < 8448 then n + 32 else if n < 8480 then n - 3328 else n

/-- A sum over products of the arguments' entries is an entry of the projection. -/
theorem dotAt_of {X : FVec Ideal S1x16384x1024 .f32} {W : FVec Ideal S1x1024x8480 .f32} (r : Fin 16384) (n : Fin 8480) :
    ∑ k : Fin 1024, X (ix3 0 r k) * W (ix3 0 k n) = dotAt X W r.val n.val := by
  rw [dotAt, dif_pos r.isLt]
  exact Finset.sum_congr rfl fun k _ => by rw [wAt_of n.isLt]

/-- Past the last column of the weights the entries are zero. -/
theorem dotAt_out {X : FVec Ideal S1x16384x1024 .f32} {W : FVec Ideal S1x1024x8480 .f32} {r n : ℕ} (h : ¬ n < 8480) :
    dotAt X W r n = 0 := by
  rw [dotAt]
  split_ifs
  · exact Finset.sum_eq_zero fun k _ => by rw [wAt_out h, mul_zero]
  · rfl

/-- A point's block of rows is its own 512 rows. -/
theorem rows_at (c : Dev nD) (t : Fin cfg0.N) (r : Fin 512) (k : Fin 1024) (h : t.val * 512 + r.val < 16384) :
    iblk m c 0 t (ix2 r k) = m ((c : Thread nD τ).loc main_arg0) (ix3 0 ⟨t.val * 512 + r.val, h⟩ k) := by
  blk_simp [iblk, idx t]
  entry_read
  pointwise
  blk_ext [idx t]

/-- Four equal pieces, joined, are equal. -/
theorem concat_congr {a a' : FVec Ideal S1024x5120 .f32} {b b' : FVec Ideal S1024x3328 .f32}
    {d d' : FVec Ideal S1024x32 .f32} {e e' : FVec Ideal S1024x96 .f32} (ha : a = a') (hb : b = b') (hd : d = d') (he : e = e') :
    concatenate S1024x8576 1 [⟨S1024x5120, a⟩, ⟨S1024x3328, b⟩, ⟨S1024x32, d⟩, ⟨S1024x96, e⟩]
      concatenates_S1024x5120_S1024x3328_S1024x32_S1024x96_S1024x8576_d1
    = concatenate S1024x8576 1 [⟨S1024x5120, a'⟩, ⟨S1024x3328, b'⟩, ⟨S1024x32, d'⟩, ⟨S1024x96, e'⟩]
      concatenates_S1024x5120_S1024x3328_S1024x32_S1024x96_S1024x8576_d1 := by
  subst ha; subst hb; subst hd; subst he; rfl

/-- The weights the launch passes: the columns but the step sizes', the step sizes' columns, columns of zeros. -/
theorem V_v7 (c : Dev nD) : V m c main_v7 = truncf .bf16 (concatenate S1024x8576 1
      [⟨S1024x5120, extractStridedSlice S1024x5120 ![0, 0] (shapeCast S1024x8480 (m ((c : Thread nD τ).loc main_arg1)) shapeCasts_S1x1024x8480_S1024x8480) slices_S1024x8480_S1024x5120_0_0⟩,
        ⟨S1024x3328, extractStridedSlice S1024x3328 ![0, 5152] (shapeCast S1024x8480 (m ((c : Thread nD τ).loc main_arg1)) shapeCasts_S1x1024x8480_S1024x8480) slices_S1024x8480_S1024x3328_0_5152⟩,
        ⟨S1024x32, extractStridedSlice S1024x32 ![0, 5120] (shapeCast S1024x8480 (m ((c : Thread nD τ).loc main_arg1)) shapeCasts_S1x1024x8480_S1024x8480) slices_S1024x8480_S1024x32_0_5120⟩,
        ⟨S1024x96, broadcastInDim S1024x96 ![] bcast_S_S1024x96 (constant (F := Ideal) S_ FTy.f32 0#32)⟩]
      concatenates_S1024x5120_S1024x3328_S1024x32_S1024x96_S1024x8576_d1) bitsLt_bf16_f32 := by
  unfold V hostOps0
  simp only [Idealize.ShloMosaic.StableHlo.after_cons, Idealize.ShloMosaic.StableHlo.after_nil]
  after_results_simp
  dsimp only [Matrix.cons_val_zero, Matrix.cons_val_one, Matrix.cons_val]
  refine congrArg (fun w => truncf .bf16 w bitsLt_bf16_f32) (concat_congr ?_ ?_ ?_ ?_) <;>
  · after_results_simp
    try rfl

/-- The weights the launch passes, entrywise. -/
theorem weights (c : Dev nD) (k : Fin 1024) (n : Fin 8576) :
    V m c main_v7 (ix2 k n) = wAt (m ((c : Thread nD τ).loc main_arg1)) k (col n.val) := by
  rw [V_v7]
  pointwise
  by_cases h1 : n.val < 5120
  · have hc : col n.val = n.val := by simp only [col, if_pos h1]
    rw [dif_pos h1, hc, wAt_of (by omega)]
  by_cases h2 : n.val < 8448
  · have hc : col n.val = n.val + 32 := by simp only [col, if_neg h1, if_pos h2]
    rw [dif_neg h1, dif_pos (by omega), hc, wAt_of (by omega)]
    exact congrArg _ (congrArg (ix3 0 k) (Fin.ext (show 5152 + (n.val - 5120) = n.val + 32 by omega)))
  by_cases h3 : n.val < 8480
  · have hc : col n.val = n.val - 3328 := by simp only [col, if_neg h1, if_neg h2, if_pos h3]
    rw [dif_neg h1, dif_neg (by omega), dif_pos (by omega), hc, wAt_of (by omega)]
    exact congrArg _ (congrArg (ix3 0 k) (Fin.ext (show 5120 + (n.val - 5120 - 3328) = n.val - 3328 by omega)))
  · have hc : col n.val = n.val := by simp only [col, if_neg h1, if_neg h2, if_neg h3]
    rw [dif_neg h1, dif_neg (by omega), dif_neg (by omega), hc, wAt_out h3]

/-- The weights' block, entrywise: all of them at every point. -/
theorem weights_at (c : Dev nD) (t : Fin cfg0.N) (k : Fin 1024) (n : Fin 8576) :
    iblk m c 1 t (ix2 k n) = wAt (m ((c : Thread nD τ).loc main_arg1)) k (col n.val) := by
  rw [← weights m c k n]
  blk_ext! [iblk, idx t]

/-- One entry of the projection, as the sum over its row. -/
theorem dotAt_row (X : FVec Ideal S1x16384x1024 .f32) (W : FVec Ideal S1x1024x8480 .f32) (a : Nat) (n : Nat) (h : a < 16384) :
    ∑ k : Fin 1024, @HMul.hMul EReal EReal EReal _ (X (ix3 0 ⟨a, h⟩ k)) (wAt W k n) = dotAt X W a n := by
  rw [dotAt, dif_pos h]

section Reference
open Cert.InprojReferenceIdeal.Read

variable (X : FVec Ideal S1x16384x1024 .f32) (W : FVec Ideal S1x1024x8480 .f32)

/-- The reference's product is the projection's entries. -/
theorem ref_all (i : Cert.InprojReferenceIdeal.S16384x8480.Idx) : val_main_v2 (F := Ideal) X W i = dotAt X W (i 0).val (i 1).val := by
  pointwise [val_main_v2, val_main_v1, val_main_v0]
  exact dotAt_of (X := X) (W := W) (i 0) (i 1)

theorem ref_at (r : Fin 16384) (n : Fin 8480) : val_main_v2 (F := Ideal) X W (ix2 r n) = dotAt X W r.val n.val :=
  ref_all X W (ix2 r n)

/-- The reference's first result: columns from 0. -/
theorem ref_z (i) : val_main_v11 (F := Ideal) X W i = dotAt X W (i 0).val (i 1).val := by
  pointwise [val_main_v11, val_main_v3]
  exact ref_all X W _

/-- The second: columns from 2048. -/
theorem ref_xbc (i) : val_main_v12 (F := Ideal) X W i = dotAt X W (i 0).val (2048 + (i 1).val) := by
  pointwise [val_main_v12, val_main_v4]
  exact ref_all X W _

/-- The third, three slices joined: columns from 5152. -/
theorem ref_qkv (i) : val_main_v13 (F := Ideal) X W i = dotAt X W (i 0).val (5152 + (i 1).val) := by
  pointwise [val_main_v13, val_main_v10, val_main_v6, val_main_v7, val_main_v8]
  split_ifs <;> refine (ref_at X W _ _).trans (congrArg (dotAt X W _) ?_) <;> dsimp only <;> omega

/-- The fourth: columns from 6432. -/
theorem ref_gates (i) : val_main_v14 (F := Ideal) X W i = dotAt X W (i 0).val (6432 + (i 1).val) := by
  pointwise [val_main_v14, val_main_v9]
  exact ref_all X W _

/-- The fifth: 32 columns from 5120, then zeros. -/
theorem ref_dt (i) : val_main_v15 (F := Ideal) X W i
    = dotAt X W (i 0).val (if (i 1).val < 32 then 5120 + (i 1).val else 8480) := by
  pointwise [val_main_v15, val_main_v5, val_main_call0_v0, val_main_c]
  split_ifs
  · exact ref_all X W _
  · rw [dotAt_out (by omega)]
    exact sitofp_zero (φ := .f32)

end Reference

end Cert.Inproj

end
-- ==== Proof.Inproj.Final.lean ====
/-
  THE INPUT PROJECTION: the five arrays the kernel leaves, as entries of the projection.
-/
module

public import proofs.«01_k».proof.Proof.Inproj.Entries

@[expose] public section

set_option maxRecDepth 16384

noncomputable section

namespace Cert.Inproj

open Cert.InprojKernelIdeal Cert.InprojKernelIdeal.Gen
open Idealize.ShloMosaic Idealize.ShloMosaic.TcCoe Idealize.SL.Sem
open Idealize.ShloMosaic.Pipeline (Dat)

variable (m : (ℓ : Loc nD τ sig) → Buf (Elt Ideal) ℓ)

/-- The gate of the state-space half. -/
theorem final2 (c : Dev nD) : (dats m 0 c).arrAt 2 (cfgs 0).N =
    fun i => dotAt (m ((c : Thread nD τ).loc main_arg0)) (m ((c : Thread nD τ).loc main_arg1)) (i 0).val ((i 1).val) := by
  refine (dats m 0 c).arrAt_eq_of_covers 2 _ (by decide +kernel) fun t _ y => ?_
  blk_simp; rw [after0_2]; unfold outsAt0; dsimp only; frame_out
  canon_tiles x h
  all_goals
    open_payloads
    pointwise
    have hN : t.val < 32 := t.isLt
    have h : t.val * 512 + (x 0).val < 16384 := by omega
    simp only [weights_at, rows_at m c t (x 0) _ h]
    refine (dotAt_row _ _ _ _ h).trans (congrArg₂ (dotAt _ _) ?_ ?_)
    · blk_simp [idx t]
      omega
    · blk_simp [idx t]
      unfold col
      split_ifs <;> omega

/-- The state-space half's inputs. -/
theorem final3 (c : Dev nD) : (dats m 0 c).arrAt 3 (cfgs 0).N =
    fun i => dotAt (m ((c : Thread nD τ).loc main_arg0)) (m ((c : Thread nD τ).loc main_arg1)) (i 0).val (2048 + (i 1).val) := by
  refine (dats m 0 c).arrAt_eq_of_covers 3 _ (by decide +kernel) fun t _ y => ?_
  blk_simp; rw [after0_3]; unfold outsAt0; dsimp only; frame_out
  canon_tiles x h
  all_goals
    open_payloads
    pointwise
    have hN : t.val < 32 := t.isLt
    have h : t.val * 512 + (x 0).val < 16384 := by omega
    simp only [weights_at, rows_at m c t (x 0) _ h]
    refine (dotAt_row _ _ _ _ h).trans (congrArg₂ (dotAt _ _) ?_ ?_)
    · blk_simp [idx t]
      omega
    · blk_simp [idx t]
      unfold col
      split_ifs <;> omega

/-- Queries, keys and values. -/
theorem final4 (c : Dev nD) : (dats m 0 c).arrAt 4 (cfgs 0).N =
    fun i => dotAt (m ((c : Thread nD τ).loc main_arg0)) (m ((c : Thread nD τ).loc main_arg1)) (i 0).val (5152 + (i 1).val) := by
  refine (dats m 0 c).arrAt_eq_of_covers 4 _ (by decide +kernel) fun t _ y => ?_
  blk_simp; rw [after0_4]; unfold outsAt0; dsimp only; frame_out
  canon_tiles x h using View.cover_of_tiledBy _ ![512, 256] (by sl_kernel_rfl) _
  all_goals
    open_payloads
    pointwise
    have hN : t.val < 32 := t.isLt
    have h : t.val * 512 + (x 0).val < 16384 := by omega
    simp only [weights_at, rows_at m c t (x 0) _ h]
    refine (dotAt_row _ _ _ _ h).trans (congrArg₂ (dotAt _ _) ?_ ?_)
    · blk_simp [idx t]
      omega
    · blk_simp [idx t]
      unfold col
      split_ifs <;> omega

/-- The gates of the attention half. -/
theorem final5 (c : Dev nD) : (dats m 0 c).arrAt 5 (cfgs 0).N =
    fun i => dotAt (m ((c : Thread nD τ).loc main_arg0)) (m ((c : Thread nD τ).loc main_arg1)) (i 0).val (6432 + (i 1).val) := by
  refine (dats m 0 c).arrAt_eq_of_covers 5 _ (by decide +kernel) fun t _ y => ?_
  blk_simp; rw [after0_5]; unfold outsAt0; dsimp only; frame_out
  canon_tiles x h
  all_goals
    open_payloads
    pointwise
    have hN : t.val < 32 := t.isLt
    have h : t.val * 512 + (x 0).val < 16384 := by omega
    simp only [weights_at, rows_at m c t (x 0) _ h]
    refine (dotAt_row _ _ _ _ h).trans (congrArg₂ (dotAt _ _) ?_ ?_)
    · blk_simp [idx t]
      omega
    · blk_simp [idx t]
      unfold col
      split_ifs <;> omega

/-- The step sizes, before columns of zeros. -/
theorem final6 (c : Dev nD) : (dats m 0 c).arrAt 6 (cfgs 0).N =
    fun i => dotAt (m ((c : Thread nD τ).loc main_arg0)) (m ((c : Thread nD τ).loc main_arg1)) (i 0).val (if (i 1).val < 32 then 5120 + (i 1).val else 8480) := by
  refine (dats m 0 c).arrAt_eq_of_covers 6 _ (by decide +kernel) fun t _ y => ?_
  blk_simp; rw [after0_6]; unfold outsAt0; dsimp only; frame_out
  open_payloads
  pointwise
  have hN : t.val < 32 := t.isLt
  have hx : (y 0).val < 512 := (y 0).isLt
  have h : t.val * 512 + (y 0).val < 16384 := by omega
  simp only [weights_at, rows_at m c t (y 0) _ h]
  rw [dotAt_row _ _ _ _ h]
  blk_simp [idx t]
  by_cases hc : (y 1).val < 32
  · rw [if_pos hc]
    refine congrArg (dotAt _ _ _) ?_
    unfold col
    split_ifs <;> omega
  · rw [if_neg hc, dotAt_out (n := 8480) (by omega), dotAt_out (by unfold col; split_ifs <;> omega)]

end Cert.Inproj

end
-- ==== Proof.Inproj.Claim.lean ====
/-
  THE CLAIMS about the Inproj programs, from their runs.
-/
module

public import proofs.«01_k».proof.Defs
public import proofs.«01_k».proof.Proof.Inproj.Final
public import proofs.«01_k».proof.Proof.Gen.InprojKernel.Frame
public import proofs.«01_k».proof.Proof.Gen.InprojReferenceIdeal.Run
public import proofs.«01_k».proof.Proof.Gen.InprojReferenceIdeal.Read
public import Idealize.ShloMosaic.Lib.Claim

@[expose] public section

set_option maxRecDepth 16384

noncomputable section

namespace Cert.Inproj

open Idealize.ShloMosaic Idealize.ShloMosaic.TcCoe Idealize.SL.Sem

theorem frame : Cert.quiescent_InprojKernel := fun m ρ _ => Cert.InprojKernel.Gen.frame m ρ

theorem frame_ideal : Cert.quiescent_InprojKernelIdeal := fun m ρ _ => Cert.InprojKernelIdeal.Gen.frame m ρ

theorem frame_reference : Cert.quiescent_InprojReferenceIdeal := fun m ρ _ =>
  (θ_run Cert.InprojReferenceIdeal.defs _ _).mono (fun r h => ⟨fun c => (h c).2.2.2.2.2, sem_eq_zero_of_no_sems (by decide) r.2⟩)
    (Cert.InprojReferenceIdeal.Value.run m ρ)

theorem algebraic : Cert.algebraic_InprojKernelIdeal_InprojReferenceIdeal := by
  pair_intro
  · run_from Cert.InprojKernelIdeal.Gen.run_main m g
  · run_from Cert.InprojReferenceIdeal.Value.run m' g'
    · rw [final2, Cert.InprojReferenceIdeal.Read.val_main_v11_eq]
      exact funext (ref_z _ _)
    · rw [final3, Cert.InprojReferenceIdeal.Read.val_main_v12_eq]
      exact funext (ref_xbc _ _)
    · rw [final4, Cert.InprojReferenceIdeal.Read.val_main_v13_eq]
      exact funext (ref_qkv _ _)
    · rw [final5, Cert.InprojReferenceIdeal.Read.val_main_v14_eq]
      exact funext (ref_gates _ _)
    · rw [final6, Cert.InprojReferenceIdeal.Read.val_main_v15_eq]
      exact funext (ref_dt _ _)

end Cert.Inproj

end
-- ==== Proof.Merge.Final.lean ====
/-
  THE MERGE CALL: the array the kernel leaves is the reference's term over the same arguments.
-/
module

public import proofs.«01_k».proof.Proof.Gen.MergeKernelIdeal.Frame
public import proofs.«01_k».proof.Proof.Gen.MergeReferenceIdeal.Read
public import Idealize.ShloMosaic.Lib.Pipeline.ValueKit

@[expose] public section

set_option maxRecDepth 16384

noncomputable section

namespace Cert.Merge

open Cert.MergeKernelIdeal Cert.MergeKernelIdeal.Gen
open Idealize.ShloMosaic Idealize.ShloMosaic.TcCoe Idealize.SL.Sem
open Idealize.ShloMosaic.Pipeline (Dat)

variable (m : (ℓ : Loc nD τ sig) → Buf (Elt Ideal) ℓ)

/-- The block indices of the windows: a point's own rows of the row operands and of the result, everything of the rest. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The reference's result over the kernel's arguments. -/
abbrev REF (c : Dev nD) : FVec Ideal S16384x1024 .f32 :=
  Cert.MergeReferenceIdeal.Read.val_main_v51 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

open Cert.MergeReferenceIdeal.Read in
/-- WHAT POINT `t` STORES at row `r`, column `j` of its block is the reference's value at the row it stands for. -/
theorem point (c : Dev nD) (t : Fin cfg0.N) (y : S256x1024.Idx) :
    k0_pay1 (F := Ideal) (k0_pay2 (iblk m c 0 t) (iblk m c 4 t) (iblk m c 1 t) (iblk m c 5 t) (iblk m c 2 t) (iblk m c 7 t))
      (k0_pay3 (iblk m c 6 t)) (constant S256x1024 FTy.f32 0#32) (iblk m c 3 t) (iblk m c 8 t) (iblk m c 9 t) y =
    REF m c (((cfg0.win 10).blk t).view.emb y) := by
  pointwise [k0_pay1, k0_pay2, k0_pay3, REF, zero_sub, val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_v20, val_main_v21, val_main_v22, val_main_v23, val_main_v24, val_main_cst_1, val_main_v25, val_main_v26, val_main_v27, val_main_v28, val_main_v29, val_main_cst_2, val_main_v30, val_main_v31, val_main_cst_3, val_main_v32, val_main_v33, val_main_v34, val_main_v35, val_main_v36, val_main_cst_4, val_main_v37, val_main_v38, val_main_cst_5, val_main_v39, val_main_v40, val_main_cst_6, val_main_v41, val_main_v42, val_main_v43, val_main_v44, val_main_v45, val_main_v46, val_main_v47, val_main_v48, val_main_v49, val_main_v50, val_main_v51]
  blk_point [iblk, V, idx t]

/-- THE ARRAY after the run: the reference's result, for the blocks of rows cover it. -/
theorem final (c : Dev nD) : (dats m 0 c).arrAt 10 (cfgs 0).N = REF m c := by
  refine (dats m 0 c).arrAt_eq_of_covers 10 _ (by decide +kernel) fun t _ y => ?_
  blk_simp
  rw [after0_10]; frame_out
  exact point m c t y

end Cert.Merge

end
-- ==== Proof.Merge.Claim.lean ====
/-
  THE CLAIMS about the Merge programs, from their runs.
-/
module

public import proofs.«01_k».proof.Defs
public import proofs.«01_k».proof.Proof.Merge.Final
public import proofs.«01_k».proof.Proof.Gen.MergeKernel.Frame
public import proofs.«01_k».proof.Proof.Gen.MergeReferenceIdeal.Run
public import proofs.«01_k».proof.Proof.Gen.MergeReferenceIdeal.Read
public import Idealize.ShloMosaic.Lib.Claim

@[expose] public section

set_option maxRecDepth 16384

noncomputable section

namespace Cert.Merge

open Idealize.ShloMosaic Idealize.ShloMosaic.TcCoe Idealize.SL.Sem

theorem frame : Cert.quiescent_MergeKernel := fun m ρ _ => Cert.MergeKernel.Gen.frame m ρ

theorem frame_ideal : Cert.quiescent_MergeKernelIdeal := fun m ρ _ => Cert.MergeKernelIdeal.Gen.frame m ρ

theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run m ρ)

theorem algebraic : Cert.algebraic_MergeKernelIdeal_MergeReferenceIdeal := by
  pair_intro
  · run_from Cert.MergeKernelIdeal.Gen.run_main m g
  · run_from Cert.MergeReferenceIdeal.Value.run m' g'
    rw [Cert.MergeReferenceIdeal.Read.val_main_v51_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (final m c).symm

end Cert.Merge

end
-- ==== Proof.lean ====
/-
  The proof of the certificate's claims: each component is a theorem of the `Claim` module of its call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.InprojKernel
public import proofs.«01_k».proof.Proof.Gen.InprojKernel.Skeleton
public import proofs.«01_k».proof.Proof.Gen.InprojKernel.Launch
public import proofs.«01_k».proof.Proof.Gen.InprojKernel.Points
public import proofs.«01_k».proof.Proof.Gen.InprojKernel.Frame
public import proofs.«01_k».proof.Proof.Gen.InprojKernelIdeal
public import proofs.«01_k».proof.Proof.Gen.InprojKernelIdeal.Skeleton
public import proofs.«01_k».proof.Proof.Gen.InprojKernelIdeal.Launch
public import proofs.«01_k».proof.Proof.Gen.InprojKernelIdeal.Points
public import proofs.«01_k».proof.Proof.Gen.InprojKernelIdeal.Frame
public import proofs.«01_k».proof.Proof.Gen.InprojReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Gen.InprojKernelIdeal.Value
public import proofs.«01_k».proof.Proof.Gen.InprojReferenceIdeal.Run
public import proofs.«01_k».proof.Proof.Gen.InprojReferenceIdeal.Read
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.Pre_finite
public import proofs.«01_k».proof.Proof.Attn.Claim
public import proofs.«01_k».proof.Proof.Ffn.Claim
public import proofs.«01_k».proof.Proof.Inproj.Claim
public import proofs.«01_k».proof.Proof.Merge.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.FfnKernel.Gen.facts, Cert.FfnKernelIdeal.Gen.facts, Cert.FfnReferenceIdeal.Gen.facts, Cert.InprojKernel.Gen.facts, Cert.InprojKernelIdeal.Gen.facts, Cert.InprojReferenceIdeal.Gen.facts, Cert.MergeKernel.Gen.facts, Cert.MergeKernelIdeal.Gen.facts, Cert.MergeReferenceIdeal.Gen.facts, Cert.Pre_finite.Gen.facts,
  Cert.Attn.frame, Cert.Attn.frame_ideal, Cert.Attn.frame_ideal_pre, Cert.Attn.frame_reference, Cert.Attn.frame_reference_pre,
  Cert.Ffn.frame, Cert.Ffn.frame_ideal, Cert.Ffn.frame_reference,
  Cert.Inproj.frame, Cert.Inproj.frame_ideal, Cert.Inproj.frame_reference,
  Cert.Merge.frame, Cert.Merge.frame_ideal, Cert.Merge.frame_reference,
  trivial, Cert.Attn.algebraic, trivial, Cert.Ffn.algebraic, trivial, Cert.Inproj.algebraic, trivial, Cert.Merge.algebraic⟩

end Cert.Proof

end
